-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x4x2048 : Shape := ⟨3, ![24, 4, 2048]⟩
abbrev S11008x1024 : Shape := ⟨2, ![11008, 1024]⟩
abbrev S11008x16 : Shape := ⟨2, ![11008, 16]⟩
abbrev S24x4x11008 : Shape := ⟨3, ![24, 4, 11008]⟩
abbrev S1024x1024 : Shape := ⟨2, ![1024, 1024]⟩
abbrev S1024x16 : Shape := ⟨2, ![1024, 16]⟩
abbrev S24x4x1024 : Shape := ⟨3, ![24, 4, 1024]⟩
abbrev S96x2048 : Shape := ⟨2, ![96, 2048]⟩
abbrev S96x128 : Shape := ⟨2, ![96, 128]⟩
abbrev S24x4x128 : Shape := ⟨3, ![24, 4, 128]⟩
abbrev S96x128x1 : Shape := ⟨3, ![96, 128, 1]⟩
abbrev S32x128 : Shape := ⟨2, ![32, 128]⟩
abbrev S128x16 : Shape := ⟨2, ![128, 16]⟩
abbrev S16x128 : Shape := ⟨2, ![16, 128]⟩
abbrev S8x128 : Shape := ⟨2, ![8, 128]⟩
abbrev S32x32x128 : Shape := ⟨3, ![32, 32, 128]⟩
abbrev S1x32x128 : Shape := ⟨3, ![1, 32, 128]⟩
abbrev S32x1x128 : Shape := ⟨3, ![32, 1, 128]⟩
abbrev S128x128 : Shape := ⟨2, ![128, 128]⟩
abbrev S256x128 : Shape := ⟨2, ![256, 128]⟩
abbrev S256x256 : Shape := ⟨2, ![256, 256]⟩
abbrev S96x256 : Shape := ⟨2, ![96, 256]⟩
abbrev S24x4x256 : Shape := ⟨3, ![24, 4, 256]⟩

abbrev nBuf : Space → Nat
  | .hbm => 4
  | .vmem => 8
  | .smem => 0
  | _ => 0

abbrev bufTy : (tb : Table) → Fin (tcTables nBuf tb) → BufTy
  | .hbm, ⟨0, _⟩ => ⟨S24x4x2048, .bf16⟩
  | .hbm, ⟨1, _⟩ => ⟨S11008x1024, .i8⟩
  | .hbm, ⟨2, _⟩ => ⟨S11008x16, .i16⟩
  | .hbm, ⟨3, _⟩ => ⟨S24x4x11008, .bf16⟩
  | .local _ .vmem, ⟨0, _⟩ => ⟨S24x4x2048, .bf16⟩
  | .local _ .vmem, ⟨1, _⟩ => ⟨S1024x1024, .i8⟩
  | .local _ .vmem, ⟨2, _⟩ => ⟨S1024x1024, .i8⟩
  | .local _ .vmem, ⟨3, _⟩ => ⟨S1024x16, .i16⟩
  | .local _ .vmem, ⟨4, _⟩ => ⟨S1024x16, .i16⟩
  | .local _ .vmem, ⟨5, _⟩ => ⟨S24x4x1024, .bf16⟩
  | .local _ .vmem, ⟨6, _⟩ => ⟨S24x4x1024, .bf16⟩
  | .local _ .vmem, ⟨7, _⟩ => ⟨S96x2048, .bf16⟩
  | _, _ => ⟨S24x4x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S24x4x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x4x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S24x4x2048 : Shape := ⟨3, ![24, 4, 2048]⟩
abbrev S11008x1024 : Shape := ⟨2, ![11008, 1024]⟩
abbrev S11008x16 : Shape := ⟨2, ![11008, 16]⟩
abbrev S_ : Shape := ⟨0, ![]⟩
abbrev S11008x1 : Shape := ⟨2, ![11008, 1]⟩
abbrev S24x4x1024 : Shape := ⟨3, ![24, 4, 1024]⟩
abbrev S24x4x11008 : Shape := ⟨3, ![24, 4, 11008]⟩

abbrev nBuf : Space → Nat
  | .hbm => 184
  | .vmem => 0
  | .smem => 0
  | _ => 0

abbrev hbmTy0_0 (i : Nat) : BufTy := match i % 128 with
  | 0 => ⟨S24x4x2048, .bf16⟩
  | 1 => ⟨S11008x1024, .i8⟩
  | 2 => ⟨S11008x16, .i16⟩
  | 3 => ⟨S11008x16, .bf16⟩
  | 4 => ⟨S11008x1024, .i32⟩
  | 5 => ⟨S_, .i32⟩
  | 6 => ⟨S11008x1024, .i32⟩
  | 7 => ⟨S11008x1024, .i32⟩
  | 8 => ⟨S11008x1024, .i32⟩
  | 9 => ⟨S_, .i32⟩
  | 10 => ⟨S11008x1024, .i32⟩
  | 11 => ⟨S11008x1024, .i32⟩
  | 12 => ⟨S11008x1, .bf16⟩
  | 13 => ⟨S11008x1, .bf16⟩
  | 14 => ⟨S11008x1, .bf16⟩
  | 15 => ⟨S11008x1, .bf16⟩
  | 16 => ⟨S11008x1, .bf16⟩
  | 17 => ⟨S11008x1, .bf16⟩
  | 18 => ⟨S11008x1, .bf16⟩
  | 19 => ⟨S11008x1, .bf16⟩
  | 20 => ⟨S11008x1, .bf16⟩
  | 21 => ⟨S11008x1, .bf16⟩
  | 22 => ⟨S11008x1, .bf16⟩
  | 23 => ⟨S11008x1, .bf16⟩
  | 24 => ⟨S11008x1, .bf16⟩
  | 25 => ⟨S11008x1, .bf16⟩
  | 26 => ⟨S11008x1, .bf16⟩
  | 27 => ⟨S11008x1, .bf16⟩
  | 28 => ⟨S_, .i32⟩
  | 29 => ⟨S11008x1024, .i32⟩
  | 30 => ⟨S11008x1024, .i32⟩
  | 31 => ⟨S_, .i32⟩
  | 32 => ⟨S11008x1024, .i32⟩
  | 33 => ⟨S11008x1024, .i32⟩
  | 34 => ⟨S_, .i32⟩
  | 35 => ⟨S11008x1024, .i32⟩
  | 36 => ⟨S11008x1024, .i1⟩
  | 37 => ⟨S11008x1024, .bf16⟩
  | 38 => ⟨S11008x1024, .bf16⟩
  | 39 => ⟨S11008x1024, .bf16⟩
  | 40 => ⟨S11008x1024, .bf16⟩
  | 41 => ⟨S11008x1024, .bf16⟩
  | 42 => ⟨S11008x1024, .bf16⟩
  | 43 => ⟨S11008x1024, .bf16⟩
  | 44 => ⟨S11008x1024, .bf16⟩
  | 45 => ⟨S11008x1024, .bf16⟩
  | 46 => ⟨S11008x1024, .bf16⟩
  | 47 => ⟨S11008x1024, .bf16⟩
  | 48 => ⟨S11008x1024, .bf16⟩
  | 49 => ⟨S11008x1024, .bf16⟩
  | 50 => ⟨S11008x1024, .bf16⟩
  | 51 => ⟨S11008x1024, .bf16⟩
  | 52 => ⟨S11008x1024, .bf16⟩
  | 53 => ⟨S11008x1024, .bf16⟩
  | 54 => ⟨S11008x1024, .bf16⟩
  | 55 => ⟨S11008x1024, .bf16⟩
  | 56 => ⟨S11008x1024, .bf16⟩
  | 57 => ⟨S11008x1024, .bf16⟩
  | 58 => ⟨S11008x1024, .bf16⟩
  | 59 => ⟨S11008x1024, .bf16⟩
  | 60 => ⟨S11008x1024, .bf16⟩
  | 61 => ⟨S_, .i32⟩
  | 62 => ⟨S11008x1024, .i32⟩
  | 63 => ⟨S11008x1024, .i32⟩
  | 64 => ⟨S_, .i32⟩
  | 65 => ⟨S11008x1024, .i32⟩
  | 66 => ⟨S11008x1024, .i32⟩
  | 67 => ⟨S_, .i32⟩
  | 68 => ⟨S11008x1024, .i32⟩
  | 69 => ⟨S11008x1024, .i1⟩
  | 70 => ⟨S11008x1024, .bf16⟩
  | 71 => ⟨S11008x1024, .bf16⟩
  | 72 => ⟨S11008x1024, .bf16⟩
  | 73 => ⟨S11008x1024, .bf16⟩
  | 74 => ⟨S_, .i32⟩
  | 75 => ⟨S11008x1024, .i32⟩
  | 76 => ⟨S11008x1024, .i32⟩
  | 77 => ⟨S_, .i32⟩
  | 78 => ⟨S11008x1024, .i32⟩
  | 79 => ⟨S11008x1024, .i32⟩
  | 80 => ⟨S_, .i32⟩
  | 81 => ⟨S11008x1024, .i32⟩
  | 82 => ⟨S11008x1024, .i1⟩
  | 83 => ⟨S11008x1024, .bf16⟩
  | 84 => ⟨S11008x1024, .bf16⟩
  | 85 => ⟨S_, .i32⟩
  | 86 => ⟨S11008x1024, .i32⟩
  | 87 => ⟨S11008x1024, .i32⟩
  | 88 => ⟨S_, .i32⟩
  | 89 => ⟨S11008x1024, .i32⟩
  | 90 => ⟨S11008x1024, .i32⟩
  | 91 => ⟨S_, .i32⟩
  | 92 => ⟨S11008x1024, .i32⟩
  | 93 => ⟨S11008x1024, .i1⟩
  | 94 => ⟨S11008x1024, .bf16⟩
  | 95 => ⟨S11008x1, .bf16⟩
  | 96 => ⟨S11008x1, .bf16⟩
  | 97 => ⟨S11008x1, .bf16⟩
  | 98 => ⟨S11008x1, .bf16⟩
  | 99 => ⟨S11008x1, .bf16⟩
  | 100 => ⟨S11008x1, .bf16⟩
  | 101 => ⟨S11008x1, .bf16⟩
  | 102 => ⟨S11008x1, .bf16⟩
  | 103 => ⟨S11008x1, .bf16⟩
  | 104 => ⟨S11008x1, .bf16⟩
  | 105 => ⟨S11008x1, .bf16⟩
  | 106 => ⟨S11008x1, .bf16⟩
  | 107 => ⟨S11008x1, .bf16⟩
  | 108 => ⟨S11008x1, .bf16⟩
  | 109 => ⟨S11008x1, .bf16⟩
  | 110 => ⟨S11008x1, .bf16⟩
  | 111 => ⟨S_, .i32⟩
  | 112 => ⟨S11008x1024, .i32⟩
  | 113 => ⟨S11008x1024, .i32⟩
  | 114 => ⟨S_, .i32⟩
  | 115 => ⟨S11008x1024, .i32⟩
  | 116 => ⟨S11008x1024, .i32⟩
  | 117 => ⟨S_, .i32⟩
  | 118 => ⟨S11008x1024, .i32⟩
  | 119 => ⟨S11008x1024, .i1⟩
  | 120 => ⟨S11008x1024, .bf16⟩
  | 121 => ⟨S11008x1024, .bf16⟩
  | 122 => ⟨S11008x1024, .bf16⟩
  | 123 => ⟨S11008x1024, .bf16⟩
  | 124 => ⟨S11008x1024, .bf16⟩
  | 125 => ⟨S11008x1024, .bf16⟩
  | 126 => ⟨S11008x1024, .bf16⟩
  | 127 => ⟨S11008x1024, .bf16⟩
  | _ => ⟨S24x4x2048, .bf16⟩

abbrev hbmTy0_1 (i : Nat) : BufTy := match i % 128 with
  | 0 => ⟨S11008x1024, .bf16⟩
  | 1 => ⟨S11008x1024, .bf16⟩
  | 2 => ⟨S11008x1024, .bf16⟩
  | 3 => ⟨S11008x1024, .bf16⟩
  | 4 => ⟨S11008x1024, .bf16⟩
  | 5 => ⟨S11008x1024, .bf16⟩
  | 6 => ⟨S11008x1024, .bf16⟩
  | 7 => ⟨S11008x1024, .bf16⟩
  | 8 => ⟨S11008x1024, .bf16⟩
  | 9 => ⟨S11008x1024, .bf16⟩
  | 10 => ⟨S11008x1024, .bf16⟩
  | 11 => ⟨S11008x1024, .bf16⟩
  | 12 => ⟨S11008x1024, .bf16⟩
  | 13 => ⟨S11008x1024, .bf16⟩
  | 14 => ⟨S11008x1024, .bf16⟩
  | 15 => ⟨S11008x1024, .bf16⟩
  | 16 => ⟨S_, .i32⟩
  | 17 => ⟨S11008x1024, .i32⟩
  | 18 => ⟨S11008x1024, .i32⟩
  | 19 => ⟨S_, .i32⟩
  | 20 => ⟨S11008x1024, .i32⟩
  | 21 => ⟨S11008x1024, .i32⟩
  | 22 => ⟨S_, .i32⟩
  | 23 => ⟨S11008x1024, .i32⟩
  | 24 => ⟨S11008x1024, .i1⟩
  | 25 => ⟨S11008x1024, .bf16⟩
  | 26 => ⟨S11008x1024, .bf16⟩
  | 27 => ⟨S11008x1024, .bf16⟩
  | 28 => ⟨S11008x1024, .bf16⟩
  | 29 => ⟨S_, .i32⟩
  | 30 => ⟨S11008x1024, .i32⟩
  | 31 => ⟨S11008x1024, .i32⟩
  | 32 => ⟨S_, .i32⟩
  | 33 => ⟨S11008x1024, .i32⟩
  | 34 => ⟨S11008x1024, .i32⟩
  | 35 => ⟨S_, .i32⟩
  | 36 => ⟨S11008x1024, .i32⟩
  | 37 => ⟨S11008x1024, .i1⟩
  | 38 => ⟨S11008x1024, .bf16⟩
  | 39 => ⟨S11008x1024, .bf16⟩
  | 40 => ⟨S_, .i32⟩
  | 41 => ⟨S11008x1024, .i32⟩
  | 42 => ⟨S11008x1024, .i32⟩
  | 43 => ⟨S_, .i32⟩
  | 44 => ⟨S11008x1024, .i32⟩
  | 45 => ⟨S11008x1024, .i32⟩
  | 46 => ⟨S_, .i32⟩
  | 47 => ⟨S11008x1024, .i32⟩
  | 48 => ⟨S11008x1024, .i1⟩
  | 49 => ⟨S11008x1024, .bf16⟩
  | 50 => ⟨S24x4x1024, .bf16⟩
  | 51 => ⟨S24x4x11008, .f32⟩
  | 52 => ⟨S24x4x1024, .bf16⟩
  | 53 => ⟨S24x4x11008, .f32⟩
  | 54 => ⟨S24x4x11008, .f32⟩
  | 55 => ⟨S24x4x11008, .bf16⟩
  | _ => ⟨S24x4x2048, .bf16⟩

abbrev hbmTy (i : Nat) : BufTy := match i / 128 with
  | 0 => hbmTy0_0 i
  | 1 => hbmTy0_1 i
  | _ => ⟨S24x4x2048, .bf16⟩

abbrev bufTy : (tb : Table) → Fin (tcTables nBuf tb) → BufTy
  | .hbm, ⟨i, _⟩ => hbmTy i
  | _, _ => ⟨S24x4x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_call1_v0 : Ref sig .tc := ⟨.hbm, 40, rfl⟩
abbrev main_call1_v1 : Ref sig .tc := ⟨.hbm, 41, rfl⟩
abbrev main_v30 : Ref sig .tc := ⟨.hbm, 42, rfl⟩
abbrev main_call2_v0 : Ref sig .tc := ⟨.hbm, 43, rfl⟩
abbrev main_call2_v1 : Ref sig .tc := ⟨.hbm, 44, rfl⟩
abbrev main_v31 : Ref sig .tc := ⟨.hbm, 45, rfl⟩
abbrev main_call3_v0 : Ref sig .tc := ⟨.hbm, 46, rfl⟩
abbrev main_call3_v1 : Ref sig .tc := ⟨.hbm, 47, rfl⟩
abbrev main_v32 : Ref sig .tc := ⟨.hbm, 48, rfl⟩
abbrev main_call4_v0 : Ref sig .tc := ⟨.hbm, 49, rfl⟩
abbrev main_call4_v1 : Ref sig .tc := ⟨.hbm, 50, rfl⟩
abbrev main_v33 : Ref sig .tc := ⟨.hbm, 51, rfl⟩
abbrev main_call5_v0 : Ref sig .tc := ⟨.hbm, 52, rfl⟩
abbrev main_call5_v1 : Ref sig .tc := ⟨.hbm, 53, rfl⟩
abbrev main_v34 : Ref sig .tc := ⟨.hbm, 54, rfl⟩
abbrev main_call6_v0 : Ref sig .tc := ⟨.hbm, 55, rfl⟩
abbrev main_call6_v1 : Ref sig .tc := ⟨.hbm, 56, rfl⟩
abbrev main_v35 : Ref sig .tc := ⟨.hbm, 57, rfl⟩
abbrev main_call7_v0 : Ref sig .tc := ⟨.hbm, 58, rfl⟩
abbrev main_call7_v1 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_7 : Ref sig .tc := ⟨.hbm, 74, rfl⟩
abbrev main_v47 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_13 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_call15_v0 : Ref sig .tc := ⟨.hbm, 120, rfl⟩
abbrev main_call15_v1 : Ref sig .tc := ⟨.hbm, 121, rfl⟩
abbrev main_v84 : Ref sig .tc := ⟨.hbm, 122, rfl⟩
abbrev main_call16_v0 : Ref sig .tc := ⟨.hbm, 123, rfl⟩
abbrev main_call16_v1 : Ref sig .tc := ⟨.hbm, 124, rfl⟩
abbrev main_v85 : Ref sig .tc := ⟨.hbm, 125, rfl⟩
abbrev main_call17_v0 : Ref sig .tc := ⟨.hbm, 126, rfl⟩
abbrev main_call17_v1 : Ref sig .tc := ⟨.hbm, 127, rfl⟩
abbrev main_v86 : Ref sig .tc := ⟨.hbm, 128, rfl⟩
abbrev main_call18_v0 : Ref sig .tc := ⟨.hbm, 129, rfl⟩
abbrev main_call18_v1 : Ref sig .tc := ⟨.hbm, 130, rfl⟩
abbrev main_v87 : Ref sig .tc := ⟨.hbm, 131, rfl⟩
abbrev main_call19_v0 : Ref sig .tc := ⟨.hbm, 132, rfl⟩
abbrev main_call19_v1 : Ref sig .tc := ⟨.hbm, 133, rfl⟩
abbrev main_v88 : Ref sig .tc := ⟨.hbm, 134, rfl⟩
abbrev main_call20_v0 : Ref sig .tc := ⟨.hbm, 135, rfl⟩
abbrev main_call20_v1 : Ref sig .tc := ⟨.hbm, 136, rfl⟩
abbrev main_v89 : Ref sig .tc := ⟨.hbm, 137, rfl⟩
abbrev main_call21_v0 : Ref sig .tc := ⟨.hbm, 138, rfl⟩
abbrev main_call21_v1 : Ref sig .tc := ⟨.hbm, 139, rfl⟩
abbrev main_v90 : Ref sig .tc := ⟨.hbm, 140, rfl⟩
abbrev main_call22_v0 : Ref sig .tc := ⟨.hbm, 141, rfl⟩
abbrev main_call22_v1 : Ref sig .tc := ⟨.hbm, 142, rfl⟩
abbrev main_v91 : Ref sig .tc := ⟨.hbm, 143, rfl⟩
abbrev main_c_16 : Ref sig .tc := ⟨.hbm, 144, rfl⟩
abbrev main_v92 : Ref sig .tc := ⟨.hbm, 145, rfl⟩
abbrev main_v93 : Ref sig .tc := ⟨.hbm, 146, rfl⟩
abbrev main_c_17 : Ref sig .tc := ⟨.hbm, 147, rfl⟩
abbrev main_v94 : Ref sig .tc := ⟨.hbm, 148, rfl⟩
abbrev main_v95 : Ref sig .tc := ⟨.hbm, 149, rfl⟩
abbrev main_c_18 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_19 : Ref sig .tc := ⟨.hbm, 157, rfl⟩
abbrev main_v102 : Ref sig .tc := ⟨.hbm, 158, rfl⟩
abbrev main_v103 : Ref sig .tc := ⟨.hbm, 159, rfl⟩
abbrev main_c_20 : Ref sig .tc := ⟨.hbm, 160, rfl⟩
abbrev main_v104 : Ref sig .tc := ⟨.hbm, 161, rfl⟩
abbrev main_v105 : Ref sig .tc := ⟨.hbm, 162, rfl⟩
abbrev main_c_21 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_22 : Ref sig .tc := ⟨.hbm, 168, rfl⟩
abbrev main_v110 : Ref sig .tc := ⟨.hbm, 169, rfl⟩
abbrev main_v111 : Ref sig .tc := ⟨.hbm, 170, rfl⟩
abbrev main_c_23 : Ref sig .tc := ⟨.hbm, 171, rfl⟩
abbrev main_v112 : Ref sig .tc := ⟨.hbm, 172, rfl⟩
abbrev main_v113 : Ref sig .tc := ⟨.hbm, 173, rfl⟩
abbrev main_c_24 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩

abbrev nD : Nat := 1
abbrev τ : Topo := Topo.v7x

variable {F : FTy → Type} [FloatOps F]
-- ==== Proof.KernelRun.lean ====
/-
  The kernel's body, run once at symbolic operands: one theorem per printed part, composed along the body.

  The five operands are the activations, the packed codes, the table's 16-bit patterns, the result block and the
  scratch copy of the activations. The region under `program_id == 0` fills the scratch; it is run both ways, so what
  the run leaves in the scratch, and hence what the later loads of it read, is a choice between the filled scratch and
  the scratch as the body found it. What the run leaves in the result block and in the scratch are the two witnesses.
-/
module

public import proofs.«01_k».proof.Proof.Gen.Kernel.Skeleton
public import proofs.«01_k».proof.Proof.Gen.Kernel.Frame
public import Idealize.ShloMosaic.Lib.Tactic

@[expose] public section

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the result block and in the scratch, with the proof that from the five buffers held whole
    the body runs to its return, the three inputs as they were. -/
noncomputable def bodyRun (c : Dev nD) (i : grid0.Coords)
    (M1 : Memref sig .tc .vmem S24x4x2048 .bf16) (h1 : M1.IsWhole) (M2 : Memref sig .tc .vmem S1024x1024 .i8) (h2 : M2.IsWhole)
    (M3 : Memref sig .tc .vmem S1024x16 .i16) (h3 : M3.IsWhole) (M4 : Memref sig .tc .vmem S24x4x1024 .bf16) (h4 : M4.IsWhole)
    (M5 : Memref sig .tc .vmem S96x2048 .bf16) (h5 : M5.IsWhole)
    (f1 : Bf (F := F) c M1) (f2 : Bf (F := F) c M2) (f3 : Bf (F := F) c M3) (f5 : Bf (F := F) c M5) :
    { W : Bf (F := F) c M4 × Bf (F := F) c M5 //
      ∀ (f4 : Bf (F := F) c M4) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 W.1 ∗ pt c M5 W.2) -∗ Q ⟨⟩))
        ⊢ wp frame (wpE (defs₀ (F := F)) Variants.none c none) E (cc0_any4 i M1 h1 M2 h2 M3 h3 M4 h4 M5 h5) Q } := by
  refine ⟨⟨?_, ?_⟩, fun f4 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.KernelProof

end
-- ==== Proof.KernelFrame.lean ====
/-
  The frame of the kernel: from any memory whose counters are zero every execution of it terminates, its three
  argument arrays end as launched, and every counter ends at zero.

  Nothing is said here of the result array. At its last grid point the blocks of the codes, of the table and of the
  result overhang their arrays, and what a fetch leaves past an array's end is not determined; so each buffer is
  described on its part inside the array only, and the result's buffer is not described at all.
-/
module

public import proofs.«01_k».proof.Proof.KernelRun

@[expose] public section

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on buffers held at read contents `X1`, `X2`, `X3` and at anything (the result's and the scratch): it
    runs, and leaves the three inputs as they were. -/
theorem sound_body (c : Dev nD) (E : Set ℕ) (i : grid0.Coords)
    (M1 : Memref sig .tc .vmem S24x4x2048 .bf16) (h1 : M1.IsWhole) (M2 : Memref sig .tc .vmem S1024x1024 .i8) (h2 : M2.IsWhole)
    (M3 : Memref sig .tc .vmem S1024x16 .i16) (h3 : M3.IsWhole) (M4 : Memref sig .tc .vmem S24x4x1024 .bf16) (h4 : M4.IsWhole)
    (M5 : Memref sig .tc .vmem S96x2048 .bf16) (h5 : M5.IsWhole)
    (X1 : S24x4x2048.Idx → Elt F .bf16) (X2 : S1024x1024.Idx → Elt F .i8) (X3 : S1024x16.Idx → Elt F .i16)
    (X4 : S24x4x1024.Idx → Elt F .bf16) (f5 : Bf (F := F) c M5) (K : PUnit → sProp 𝕄) :
    iprop((owns (c : Thread nD τ) M1 fullShare X1 ∗ owns (c : Thread nD τ) M2 fullShare X2 ∗ owns (c : Thread nD τ) M3 fullShare X3
            ∗ owns (c : Thread nD τ) M4 fullShare X4 ∗ pt c M5 f5)
          ∗ (iprop(owns (c : Thread nD τ) M1 fullShare X1 ∗ owns (c : Thread nD τ) M2 fullShare X2 ∗ owns (c : Thread nD τ) M3 fullShare X3
            ∗ (∃ X, owns (c : Thread nD τ) M4 fullShare X) ∗ (∃ f, pt c M5 f)) -∗ K ⟨⟩))
      ⊢ wp frame (wpE (defs₀ (F := F)) Variants.none c none) E (cc0_any4 i M1 h1 M2 h2 M3 h3 M4 h4 M5 h5) K := by
  unfold owns; rw [h1.set_eq_univ, h2.set_eq_univ, h3.set_eq_univ, h4.set_eq_univ]
  iintro ⟨⟨⟨%f1, %hf1, H1⟩, ⟨%f2, %hf2, H2⟩, ⟨%f3, %hf3, H3⟩, ⟨%f4, %hf4, H4⟩, H5⟩, Hk⟩
  iapply ((bodyRun (F := F) c i M1 h1 M2 h2 M3 h3 M4 h4 M5 h5 f1 f2 f3 f5).2 f4 E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; iexists _; isplitr
    swap; · iexact H4
    ipureintro; rfl
  iexists _; iexact H5

/-! ## The proof data -/

/-- The proof data: the arrays at what the region finds, each input's buffer left with its block in it (its part
    inside the array), the result's not described, the scratch and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => win0_2.fill (grid0.coords t) (fun _ => 0#16) (iblk m c 2 t)
    | ⟨3, _⟩ => Dat.unnamed 3 t
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

/-- The windows nothing is said of: the result's. -/
abbrev fgt : Fin cfg0.W → Bool := fun w => w.val == 3

theorem body_obligation (c : Dev nD) : BodyObligationLoose (dats m 0 c) (defs₀ (F := F)) Variants.none () Set.univ fgt := fun t => by
  rw [bigSep_W0, bigSep_W0]
  simp only [show fgt (0 : Fin 4) = false from rfl, show fgt (1 : Fin 4) = false from rfl, show fgt (2 : Fin 4) = false from rfl,
    show fgt (3 : Fin 4) = true from rfl]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f5, H5⟩, Hg⟩, Ho, ⟨%d0, H0⟩, ⟨%d1, H1⟩, ⟨%d2, H2⟩, ⟨%X3, H3⟩⟩
  rw [before_0 m c t d0, before_1 m c t d1, before_2 m c t d2]
  iapply (sound_body (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (Memref.whole cc0_scratch0) (Memref.isWhole_whole _)
    (iblk m c 0 t) (win0_1.fill (grid0.coords t) d1 (iblk m c 1 t)) (win0_2.fill (grid0.coords t) d2 (iblk m c 2 t)) X3 f5 _)
  isplitl [H0 H1 H2 H3 H5]
  · isplitl [H0]; · iexact H0
    isplitl [H1]; · iexact H1
    isplitl [H2]; · iexact H2
    isplitl [H3]; · iexact H3
    iexact H5
  iintro ⟨H0, H1, H2, H3, H5⟩
  isplitl [H5 Hg]
  · isplitl [H5]; · iexact H5
    iexact Hg
  isplitl [Ho]; · iexact Ho
  have hx : win0_1.cut (grid0.coords t) ((dats m 0 c).after 1 t) = iblk m c 1 t := win0_1.cut_fill _ _ _
  have hy : win0_2.cut (grid0.coords t) ((dats m 0 c).after 2 t) = iblk m c 2 t := win0_2.cut_fill _ _ _
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [hx]; try iexact H1
  isplitl [H2]
  · iexists d2
    change _ ⊢ owns (c : Thread nD τ) (st0_2 t) fullShare (win0_2.fill (grid0.coords t) d2 (win0_2.cut (grid0.coords t) ((dats m 0 c).after 2 t)))
    rw [hy]; try iexact H2
  iexact H3

set_option backward.isDefEq.respectTransparency.types false in
/-- The frame, for any float values. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) (0 : Fin 1) launch0 defs₀ Variants.none fgt m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := _) (hQ' := fun r h => ⟨fun c => ⟨h.1.arr_in c 0 rfl, h.1.arr_in c 1 rfl, h.1.arr_in c 2 rfl⟩, h.2⟩)

end Cert.KernelProof

end
-- ==== Proof.KernelIdealRun.lean ====
/-
  The idealized kernel's body, run once at symbolic operands: one theorem per printed part, composed along the body.

  The five operands are the activations, the packed codes, the table's 16-bit patterns, the result block and the
  scratch copy of the activations. The region under `program_id == 0` fills the scratch; it is run both ways, so what
  the run leaves in the scratch, and hence what the later loads of it read, is a choice between the filled scratch and
  the scratch as the body found it. What the run leaves in the result block and in the scratch are the two witnesses.
-/
module

public import proofs.«01_k».proof.Proof.Gen.KernelIdeal.Skeleton
public import proofs.«01_k».proof.Proof.Gen.KernelIdeal.Frame
public import Idealize.ShloMosaic.Lib.Tactic

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the result block and in the scratch, with the proof that from the five buffers held whole
    the body runs to its return, the three inputs as they were. -/
noncomputable def bodyRun (c : Dev nD) (i : grid0.Coords)
    (M1 : Memref sig .tc .vmem S24x4x2048 .bf16) (h1 : M1.IsWhole) (M2 : Memref sig .tc .vmem S1024x1024 .i8) (h2 : M2.IsWhole)
    (M3 : Memref sig .tc .vmem S1024x16 .i16) (h3 : M3.IsWhole) (M4 : Memref sig .tc .vmem S24x4x1024 .bf16) (h4 : M4.IsWhole)
    (M5 : Memref sig .tc .vmem S96x2048 .bf16) (h5 : M5.IsWhole)
    (f1 : Bf (F := F) c M1) (f2 : Bf (F := F) c M2) (f3 : Bf (F := F) c M3) (f5 : Bf (F := F) c M5) :
    { W : Bf (F := F) c M4 × Bf (F := F) c M5 //
      ∀ (f4 : Bf (F := F) c M4) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 W.1 ∗ pt c M5 W.2) -∗ Q ⟨⟩))
        ⊢ wp frame (wpE (defs₀ (F := F)) Variants.none c none) E (cc0_any4 i M1 h1 M2 h2 M3 h3 M4 h4 M5 h5) Q } := by
  refine ⟨⟨?_, ?_⟩, fun f4 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.KernelIdealProof

end
-- ==== Proof.Spec.lean ====
/-
  The kernel body's arithmetic written once, with its repeated stretches as definitions: the table lookup, the decode
  of a block of packed words into its even and its odd rows, a right operand of one product, one product, one block of
  256 result columns, and the permuted copy of the activations. What the run of the body stores is these, by unfolding.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe

variable {F : FTy → Type} [FloatOps F]

/-- Row `idx r n` of `tab`, in column `n`: one-hot against the row number, then summed. -/
def lookup (tab idx : IVec S32x128 8) : IVec S32x128 8 :=
  trunci 8 (multiReductionI .add [0] S32x128
    (select (cmpi .eq (broadcastTo S32x32x128 (shapeCast S1x32x128 (extsi 32 idx natLt_8_32) shapeCasts_S32x128_S1x32x128)
          broadcasts_S1x32x128_S32x32x128) (iota .tc S32x32x128 32 [0] iota_S32x32x128_d0_w32))
      (broadcastTo S32x32x128 (shapeCast S32x1x128 (shapeCast S32x1x128 (extsi 32 tab natLt_8_32) shapeCasts_S32x128_S32x1x128)
          shapeCasts_S32x1x128_S32x1x128) broadcasts_S32x1x128_S32x32x128)
      (broadcast S32x32x128 0#32)) 0#32 reduces_S32x32x128_S32x128 rfl) natLt_8_32

/-- The row numbers of the tables' low bytes, twice the level each; -/
def selLo : IVec S32x128 8 :=
  trunci 8 (muli (broadcast S32x128 2#32) (andi (iota .tc S32x128 32 [0] iota_S32x128_d0_w32) (broadcast S32x128 15#32))) natLt_8_32
/-- and of their high bytes. -/
def selHi : IVec S32x128 8 :=
  trunci 8 (addi (muli (broadcast S32x128 2#32) (andi (iota .tc S32x128 32 [0] iota_S32x128_d0_w32) (broadcast S32x128 15#32)))
    (broadcast S32x128 1#32)) natLt_8_32

/-- The bytes of 128 columns' tables: row `2 l + h` the byte `h` of level `l`. -/
def tabBytes (t : IVec S128x16 16) : IVec S32x128 8 :=
  bitcast S32x128 8 (bitcast S8x128 32 (transpose S16x128 [1, 0] t transposes_S128x16_p1_0_S16x128)
    bitcasts_S16x128_w16_S8x128_w32) bitcasts_S8x128_w32_S32x128_w8

/-- The tables' low bytes by level (twice over), and their high bytes. -/
def tLo (t : IVec S128x16 16) : IVec S32x128 8 := lookup (tabBytes t) selLo
def tHi (t : IVec S128x16 16) : IVec S32x128 8 := lookup (tabBytes t) selHi

/-- Rows `o`, …, `o + 31` of the transposed codes, four rows to a word. -/
def words (w : IVec S128x128 8) (o : ℕ) (h : S128x128.Slices ![o, 0] S32x128) : IVec S8x128 32 :=
  bitcast S8x128 32 (extractStridedSlice S32x128 ![o, 0] (transpose S128x128 [1, 0] w transposes_S128x128_p1_0_S128x128) h)
    bitcasts_S32x128_w8_S8x128_w32

/-- The low nibbles of packed words, and the high ones. -/
def nibLo (w : IVec S8x128 32) : IVec S8x128 32 := andi w (broadcast S8x128 252645135#32)
def nibHi (w : IVec S8x128 32) : IVec S8x128 32 := andi (shrui w (broadcast S8x128 4#32)) (broadcast S8x128 252645135#32)

/-- A byte of each code's table entry, four to a word. -/
def look (tab : IVec S32x128 8) (codes : IVec S8x128 32) : IVec S8x128 32 :=
  bitcast S8x128 32 (lookup tab (bitcast S32x128 8 codes bitcasts_S8x128_w32_S32x128_w8)) bitcasts_S32x128_w8_S8x128_w32

/-- The 16-bit entries of the even codes, two to a word; -/
def evenW (lo hi : IVec S8x128 32) : IVec S8x128 32 :=
  ori (andi lo (broadcast S8x128 16711935#32)) (andi (shli hi (broadcast S8x128 8#32)) (broadcast S8x128 4278255360#32))
/-- of the odd ones. -/
def oddW (lo hi : IVec S8x128 32) : IVec S8x128 32 :=
  ori (andi (shrui lo (broadcast S8x128 8#32)) (broadcast S8x128 16711935#32)) (andi hi (broadcast S8x128 4278255360#32))

/-- Words read as pairs of bf16. -/
def asBf (w : IVec S8x128 32) : FVec F S16x128 .bf16 :=
  bitcastToFloat .bf16 (bitcast S16x128 16 w bitcasts_S8x128_w32_S16x128_w16)

/-- The even rows, and the odd rows, of 32 rows of codes decoded by the tables `t`. -/
def decE (t : IVec S128x16 16) (codes : IVec S8x128 32) : FVec F S16x128 .bf16 := asBf (evenW (look (tLo t) codes) (look (tHi t) codes))
def decO (t : IVec S128x16 16) (codes : IVec S8x128 32) : FVec F S16x128 .bf16 := asBf (oddW (look (tLo t) codes) (look (tHi t) codes))

/-- 256 rows of a right operand: the rows of two 128-row blocks of codes `wa`, `wb`, their nibbles by `nib`. -/
def half (nib : IVec S8x128 32 → IVec S8x128 32) (t : IVec S128x16 16) (wa wb : IVec S128x128 8) : FVec F S256x128 .bf16 :=
  concatenate S256x128 0
    [⟨S16x128, decE t (nib (words wa 0 slices_S128x128_o0_0_S32x128))⟩, ⟨S16x128, decO t (nib (words wa 0 slices_S128x128_o0_0_S32x128))⟩,
     ⟨S16x128, decE t (nib (words wa 32 slices_S128x128_o32_0_S32x128))⟩, ⟨S16x128, decO t (nib (words wa 32 slices_S128x128_o32_0_S32x128))⟩,
     ⟨S16x128, decE t (nib (words wa 64 slices_S128x128_o64_0_S32x128))⟩, ⟨S16x128, decO t (nib (words wa 64 slices_S128x128_o64_0_S32x128))⟩,
     ⟨S16x128, decE t (nib (words wa 96 slices_S128x128_o96_0_S32x128))⟩, ⟨S16x128, decO t (nib (words wa 96 slices_S128x128_o96_0_S32x128))⟩,
     ⟨S16x128, decE t (nib (words wb 0 slices_S128x128_o0_0_S32x128))⟩, ⟨S16x128, decO t (nib (words wb 0 slices_S128x128_o0_0_S32x128))⟩,
     ⟨S16x128, decE t (nib (words wb 32 slices_S128x128_o32_0_S32x128))⟩, ⟨S16x128, decO t (nib (words wb 32 slices_S128x128_o32_0_S32x128))⟩,
     ⟨S16x128, decE t (nib (words wb 64 slices_S128x128_o64_0_S32x128))⟩, ⟨S16x128, decO t (nib (words wb 64 slices_S128x128_o64_0_S32x128))⟩,
     ⟨S16x128, decE t (nib (words wb 96 slices_S128x128_o96_0_S32x128))⟩, ⟨S16x128, decO t (nib (words wb 96 slices_S128x128_o96_0_S32x128))⟩]
    concatenates_S16x128_S16x128_S16x128_S16x128_S16x128_S16x128_S16x128_S16x128_S16x128_S16x128_S16x128_S16x128_S16x128_S16x128_S16x128_S16x128_S256x128_d0

/-- One product: 256 columns of the permuted activations by a right operand of two halves. -/
def dot (x : FVec F S96x256 .bf16) (a b : FVec F S256x128 .bf16) : FVec F S96x256 .f32 :=
  matmul dot_S96x256_S256x256_S96x256_1_0_0_1_n_n none x
    (concatenate S256x256 1 [⟨S256x128, a⟩, ⟨S256x128, b⟩] concatenates_S256x128_S256x128_S256x256_d1)
    (constant S96x256 .f32 0x00000000#32)

section Loads

variable (c : Dev nD)
    (M1 : Memref sig .tc .vmem S24x4x2048 .bf16) (M2 : Memref sig .tc .vmem S1024x1024 .i8)
    (M3 : Memref sig .tc .vmem S1024x16 .i16) (M5 : Memref sig .tc .vmem S96x2048 .bf16)
    (f1 : Bf (F := F) c M1) (f2 : Bf (F := F) c M2) (f3 : Bf (F := F) c M3) (f5 : Bf (F := F) c M5)

/-- Rows `n`, … and columns `k`, … of the codes' block; -/
def ldW (n k : ℕ) (h : n + 128 ≤ 1024 ∧ k + 128 ≤ 1024) : IVec S128x128 8 :=
  View.readAt (Elt F) M2.view (Rect.unit (s := S1024x1024) ![n, k] S128x128.size (Fin.forall_fin_two.mpr ⟨h.1, h.2⟩)).toLoadRect f2
/-- rows `n`, … of the tables' block; -/
def ldT (n : ℕ) (h : n + 128 ≤ 1024) : IVec S128x16 16 :=
  View.readAt (Elt F) M3.view (Rect.unit (s := S1024x16) ![n, 0] S128x16.size (Fin.forall_fin_two.mpr ⟨h, le_refl 16⟩)).toLoadRect f3
/-- columns `k`, … of the permuted activations. -/
def ldX (k : ℕ) (h : k + 256 ≤ 2048) : FVec F S96x256 .bf16 :=
  View.readAt (Elt F) M5.view (Rect.unit (s := S96x2048) ![0, k] S96x256.size (Fin.forall_fin_two.mpr ⟨le_refl 96, h⟩)).toLoadRect f5

/-- 256 rows (codes' columns `k`, …) by 128 columns (result columns `n`, …) of a right operand. -/
def col (nib : IVec S8x128 32 → IVec S8x128 32) (n k : ℕ) (hn : n + 128 ≤ 1024) (hk : k + 256 ≤ 1024) : FVec F S256x128 .bf16 :=
  half nib (ldT c M3 f3 n hn) (ldW c M2 f2 n k ⟨hn, by omega⟩) (ldW c M2 f2 n (k + 128) ⟨hn, by omega⟩)

/-- The product of the activations' columns `kx`, … with the codes' nibbles at columns `k`, …, result columns `n`, …. -/
def prod (nib : IVec S8x128 32 → IVec S8x128 32) (n k kx : ℕ) (hn : n + 256 ≤ 1024) (hk : k + 256 ≤ 1024) (hx : kx + 256 ≤ 2048) :
    FVec F S96x256 .f32 :=
  dot (ldX c M5 f5 kx hx) (col c M2 M3 f2 f3 nib n k (by omega) hk) (col c M2 M3 f2 f3 nib (n + 128) k (by omega) hk)

/-- The eight products of 256 result columns, added in the order the body adds them. -/
def acc (n : ℕ) (hn : n + 256 ≤ 1024) : FVec F S96x256 .f32 :=
  addf (addf (addf (addf (addf (addf (addf
    (prod c M2 M3 M5 f2 f3 f5 nibLo n 0 0 hn (by decide) (by decide))
    (prod c M2 M3 M5 f2 f3 f5 nibLo n 256 256 hn (by decide) (by decide)))
    (prod c M2 M3 M5 f2 f3 f5 nibLo n 512 512 hn (by decide) (by decide)))
    (prod c M2 M3 M5 f2 f3 f5 nibLo n 768 768 hn (by decide) (by decide)))
    (prod c M2 M3 M5 f2 f3 f5 nibHi n 0 1024 hn (by decide) (by decide)))
    (prod c M2 M3 M5 f2 f3 f5 nibHi n 256 1280 hn (by decide) (by decide)))
    (prod c M2 M3 M5 f2 f3 f5 nibHi n 512 1536 hn (by decide) (by decide)))
    (prod c M2 M3 M5 f2 f3 f5 nibHi n 768 1792 hn (by decide) (by decide))

/-- What is stored to result columns `n`, …, `n + 255`. -/
def piece (n : ℕ) (hn : n + 256 ≤ 1024) : FVec F S24x4x256 .bf16 :=
  truncf .bf16 (shapeCast S24x4x256 (acc c M2 M3 M5 f2 f3 f5 n hn) shapeCasts_S96x256_S24x4x256) bitsLt_bf16_f32

/-- The store of it. -/
def store (n : ℕ) (hn : n + 256 ≤ 1024) : View.Piece (Elt F) S24x4x1024 .bf16 :=
  ⟨Rect.unit (s := S24x4x1024) ![0, 0, n] S24x4x256.size (fun a => by fin_cases a; exacts [le_refl 24, le_refl 4, hn]), piece c M2 M3 M5 f2 f3 f5 n hn⟩

/-- In a group of 32 columns, the column each column takes its activations from. -/
def srcCol : IVec S96x128 32 :=
  addi (subi (iota .tc S96x128 32 [1] iota_S96x128_d1_w32) (andi (iota .tc S96x128 32 [1] iota_S96x128_d1_w32) (broadcast S96x128 31#32)))
    (select (cmpi .slt (andi (iota .tc S96x128 32 [1] iota_S96x128_d1_w32) (broadcast S96x128 31#32)) (broadcast S96x128 16#32))
      (muli (broadcast S96x128 2#32) (andi (iota .tc S96x128 32 [1] iota_S96x128_d1_w32) (broadcast S96x128 31#32)))
      (subi (muli (broadcast S96x128 2#32) (andi (iota .tc S96x128 32 [1] iota_S96x128_d1_w32) (broadcast S96x128 31#32)))
        (broadcast S96x128 31#32)))

/-- 128 columns of the activations, permuted. -/
def permuted (x : FVec F S24x4x128 .bf16) : FVec F S96x128 .bf16 :=
  shapeCast S96x128 (truncf .bf16 (dynamicGather 1 (shapeCast S96x128 (extf .f32 x bitsLt_bf16_f32) shapeCasts_S24x4x128_S96x128)
    (shapeCast S96x128 (shapeCast S96x128x1 (select (cmpi .slt srcCol (broadcast S96x128 0#32)) (addi srcCol (broadcast S96x128 128#32)) srcCol)
      shapeCasts_S96x128_S96x128x1) shapeCasts_S96x128x1_S96x128)) bitsLt_bf16_f32) shapeCasts_S96x128_S96x128

/-- The store of columns `k`, … of the permuted activations. -/
def storeX (k : ℕ) (hk : k + 128 ≤ 2048) : View.Piece (Elt F) S96x2048 .bf16 :=
  ⟨Rect.unit (s := S96x2048) ![0, k] S96x128.size (Fin.forall_fin_two.mpr ⟨le_refl 96, hk⟩),
    permuted (View.readAt (Elt F) M1.view
      (Rect.unit (s := S24x4x2048) ![0, 0, k] S24x4x128.size (fun a => by fin_cases a; exacts [le_refl 24, le_refl 4, hk])).toLoadRect f1)⟩

/-- The sixteen stores that fill the scratch. -/
def storesX : List (View.Piece (Elt F) S96x2048 .bf16) :=
  [storeX c M1 f1 1920 (by decide), storeX c M1 f1 1792 (by decide), storeX c M1 f1 1664 (by decide), storeX c M1 f1 1536 (by decide),
   storeX c M1 f1 1408 (by decide), storeX c M1 f1 1280 (by decide), storeX c M1 f1 1152 (by decide), storeX c M1 f1 1024 (by decide),
   storeX c M1 f1 896 (by decide), storeX c M1 f1 768 (by decide), storeX c M1 f1 640 (by decide), storeX c M1 f1 512 (by decide),
   storeX c M1 f1 384 (by decide), storeX c M1 f1 256 (by decide), storeX c M1 f1 128 (by decide), storeX c M1 f1 0 (by decide)]

end Loads

section Run

variable (c : Dev nD) (i : grid0.Coords)
    (M1 : Memref sig .tc .vmem S24x4x2048 .bf16) (h1 : M1.IsWhole) (M2 : Memref sig .tc .vmem S1024x1024 .i8) (h2 : M2.IsWhole)
    (M3 : Memref sig .tc .vmem S1024x16 .i16) (h3 : M3.IsWhole) (M4 : Memref sig .tc .vmem S24x4x1024 .bf16) (h4 : M4.IsWhole)
    (M5 : Memref sig .tc .vmem S96x2048 .bf16) (h5 : M5.IsWhole)
    (f1 : Bf (F := F) c M1) (f2 : Bf (F := F) c M2) (f3 : Bf (F := F) c M3) (f5 : Bf (F := F) c M5)

/-- The condition of the body's first region. -/
abbrev first : BitVec 1 := bodyRun.sl.v2 i

/-- What the scratch holds after the body. -/
def scratchAfter : Bf (F := F) c M5 :=
  if _hc : first i = 1#1 then M5.view.writes (Elt F) f5 (storesX c M1 f1) else f5

theorem scratch_eq : (bodyRun c i M1 h1 M2 h2 M3 h3 M4 h4 M5 h5 f1 f2 f3 f5).1.2 = scratchAfter c i M1 M5 f1 f5 := by
  chain_rfl

theorem result_eq : (bodyRun c i M1 h1 M2 h2 M3 h3 M4 h4 M5 h5 f1 f2 f3 f5).1.1
    = M4.view.writes (Elt F) M4.view.junk
        [store c M2 M3 M5 f2 f3 (scratchAfter c i M1 M5 f1 f5) 768 (by decide), store c M2 M3 M5 f2 f3 (scratchAfter c i M1 M5 f1 f5) 512 (by decide),
         store c M2 M3 M5 f2 f3 (scratchAfter c i M1 M5 f1 f5) 256 (by decide), store c M2 M3 M5 f2 f3 (scratchAfter c i M1 M5 f1 f5) 0 (by decide)] := by
  chain_rfl

end Run

end Cert.KernelIdealProof

end
-- ==== Proof.Lookup.lean ====
/-
  The table lookup read at an element, and the table's bytes read at an element.
-/
module

public import proofs.«01_k».proof.Proof.Spec
public import Idealize.ShloMosaic.Lib.Pointwise
public import Idealize.ShloMosaic.Lib.BitcastFour
public import Idealize.ShloMosaic.Lib.ValueIdx

@[expose] public section

noncomputable section

namespace Cert.KernelIdealProof

open Cert.KernelIdeal Cert.KernelIdeal.Gen

open Idealize.ShloMosaic
open Idealize.ShloMosaic.TcCoe

/-- A sum of zero words is zero. -/
theorem fold_addi_zero (s : Finset (Fin 32)) (g : Fin 32 → BitVec 32) (h : ∀ k ∈ s, g k = 0#32) : s.fold IntOp.addi 0#32 g = 0#32 := by
  induction s using Finset.induction_on with
  | empty => rfl
  | insert a s ha ih =>
    rw [Finset.fold_insert ha, h a (Finset.mem_insert_self a s), ih fun k hk => h k (Finset.mem_insert_of_mem hk)]
    rfl

/-- A one-hot sum of words: of `f k` where `k` is the word's value and zero elsewhere. -/
theorem oneHot (v : BitVec 32) (f : Fin 32 → BitVec 32) (q : Fin 32) (h : v.toNat = q.val) :
    (Finset.univ.fold IntOp.addi 0#32 fun k : Fin 32 => Scalar.select (IntOp.cmpi .eq v (BitVec.ofNat 32 k.val)) (f k) 0#32) = f q := by
  have hv : v = BitVec.ofNat 32 q.val := by
    apply BitVec.eq_of_toNat_eq
    rw [h, BitVec.toNat_ofNat, Nat.mod_eq_of_lt (by omega)]
  rw [← Finset.insert_erase (Finset.mem_univ q), Finset.fold_insert (Finset.notMem_erase q _), fold_addi_zero]
  · rw [hv]; simp [Scalar.select, IntOp.cmpi, IntOp.addi]
  · intro k hk
    have hk : k ≠ q := Finset.ne_of_mem_erase hk
    rw [hv]
    have : BitVec.ofNat 32 q.val ≠ BitVec.ofNat 32 k.val := by
      intro e
      have := congrArg BitVec.toNat e
      rw [BitVec.toNat_ofNat, BitVec.toNat_ofNat, Nat.mod_eq_of_lt (by omega), Nat.mod_eq_of_lt (by omega)] at this
      exact hk (Fin.ext this.symm)
    simp [Scalar.select, IntOp.cmpi, beq_eq_false_iff_ne.mpr this]

/-- A byte widened with its sign and cut back is itself. -/
theorem trunc_sext (b : BitVec 8) : (b.signExtend 32).setWidth 8 = b := by
  decide +revert

/-- The lookup reads the row its index names. -/
theorem lookup_apply (tab idx : IVec S32x128 8) (r : Fin 32) (n : Fin 128) (q : Fin 32) (h : (idx (ix2 r n)).toNat = q.val) :
    lookup tab idx (ix2 r n) = tab (ix2 q n) := by
  have hv : ((idx (ix2 r n)).signExtend 32).toNat = q.val := by
    have : (idx (ix2 r n)).msb = false := by
      rw [BitVec.msb_eq_decide]; simp; omega
    rw [BitVec.signExtend_eq_setWidth_of_msb_false this, BitVec.toNat_setWidth, h]; omega
  have key := oneHot _ (fun k => (tab (ix2 k n)).signExtend 32) q hv
  have ht : ((tab (ix2 q n)).signExtend 32).setWidth 8 = tab (ix2 q n) := trunc_sext _
  rw [← ht, ← key]
  pointwise [lookup]

section Bitcasts

variable {R R' n : ℕ}

/-- A bit of a bit-cast between elements of different widths, two axes: with `p` the source row that holds it. -/
theorem bitcast_bit {v w : ℕ} (x : (⟨2, ![R, n]⟩ : Shape).Idx → BitVec v) (h : (⟨2, ![R, n]⟩ : Shape).Bitcasts v ⟨2, ![R', n]⟩ w)
    (hv : 0 < v) (a : Fin R') (l : Fin n) (q : ℕ) (hq : q < w) (p : Fin R) (hp : p.val = (a.val * w + q) / v) :
    (bitcast ⟨2, ![R', n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Byte `r` of a column of words. -/
theorem byte_bit (x : IVec S8x128 32) (r : Fin 32) (l : Fin 128) (q : ℕ) (hq : q < 8) :
    (bitcast S32x128 8 x bitcasts_S8x128_w32_S32x128_w8 (ix2 r l)).getLsbD q
      = (x (ix2 ⟨r.val / 4, by omega⟩ l)).getLsbD (8 * (r.val % 4) + q) := by
  rw [bitcast_bit x _ (by decide) r l q hq ⟨r.val / 4, by omega⟩ (by show r.val / 4 = (r.val * 8 + q) / 32; omega)]
  congr 1
  omega

/-- Words of four rows of bytes. -/
theorem word_bit (x : IVec S32x128 8) (a : Fin 8) (l : Fin 128) (q : ℕ) (hq : q < 32) :
    (bitcast S8x128 32 x bitcasts_S32x128_w8_S8x128_w32 (ix2 a l)).getLsbD q
      = (x (ix2 ⟨4 * a.val + q / 8, by omega⟩ l)).getLsbD (q % 8) := by
  rw [bitcast_bit x _ (by decide) a l q hq ⟨4 * a.val + q / 8, by omega⟩ (by show 4 * a.val + q / 8 = (a.val * 32 + q) / 8; omega)]
  congr 1
  omega

/-- Words of two rows of 16-bit elements. -/
theorem pair_bit (x : IVec S16x128 16) (a : Fin 8) (l : Fin 128) (q : ℕ) (hq : q < 32) :
    (bitcast S8x128 32 x bitcasts_S16x128_w16_S8x128_w32 (ix2 a l)).getLsbD q
      = (x (ix2 ⟨2 * a.val + q / 16, by omega⟩ l)).getLsbD (q % 16) := by
  rw [bitcast_bit x _ (by decide) a l q hq ⟨2 * a.val + q / 16, by omega⟩ (by show 2 * a.val + q / 16 = (a.val * 32 + q) / 16; omega)]
  congr 1
  omega

/-- 16-bit row `r` of a column of words. -/
theorem half_bit (x : IVec S8x128 32) (r : Fin 16) (l : Fin 128) (q : ℕ) (hq : q < 16) :
    (bitcast S16x128 16 x bitcasts_S8x128_w32_S16x128_w16 (ix2 r l)).getLsbD q
      = (x (ix2 ⟨r.val / 2, by omega⟩ l)).getLsbD (16 * (r.val % 2) + q) := by
  rw [bitcast_bit x _ (by decide) r l q hq ⟨r.val / 2, by omega⟩ (by show r.val / 2 = (r.val * 16 + q) / 32; omega)]
  congr 1
  omega

end Bitcasts

/-- The table bytes: row `2 l + h` is byte `h` of level `l`. -/
theorem tabBytes_bit (t : IVec S128x16 16) (r : Fin 32) (n : Fin 128) (q : ℕ) (hq : q < 8) :
    (tabBytes t (ix2 r n)).getLsbD q = (t (ix2 n ⟨r.val / 2, by omega⟩)).getLsbD (8 * (r.val % 2) + q) := by
  unfold tabBytes
  rw [byte_bit _ _ _ _ hq, pair_bit _ _ _ _ (by omega)]
  pointwise
  congr 3
  · congr 1; omega
  · omega

theorem selLo_apply (r : Fin 32) (n : Fin 128) : (selLo (ix2 r n)).toNat = 2 * (r.val % 16) := by
  pointwise [selLo]
  clear n
  decide +revert

theorem selHi_apply (r : Fin 32) (n : Fin 128) : (selHi (ix2 r n)).toNat = 2 * (r.val % 16) + 1 := by
  pointwise [selHi]
  clear n
  decide +revert

/-- The low-byte table read at a level. -/
theorem tLo_bit (t : IVec S128x16 16) (l : Fin 16) (r : Fin 32) (h : r.val = l.val) (n : Fin 128) (q : ℕ) (hq : q < 8) :
    (tLo t (ix2 r n)).getLsbD q = (t (ix2 n l)).getLsbD q := by
  unfold tLo
  rw [lookup_apply _ _ r n ⟨2 * l.val, by omega⟩ (by rw [selLo_apply]; show _ = 2 * l.val; omega), tabBytes_bit _ _ _ _ hq]
  congr 2
  · congr 1; apply Fin.ext; simp
  · simp

/-- The high-byte table read at a level. -/
theorem tHi_bit (t : IVec S128x16 16) (l : Fin 16) (r : Fin 32) (h : r.val = l.val) (n : Fin 128) (q : ℕ) (hq : q < 8) :
    (tHi t (ix2 r n)).getLsbD q = (t (ix2 n l)).getLsbD (8 + q) := by
  unfold tHi
  rw [lookup_apply _ _ r n ⟨2 * l.val + 1, by omega⟩ (by rw [selHi_apply]; show _ = 2 * l.val + 1; omega), tabBytes_bit _ _ _ _ hq]
  congr 2
  · congr 1; apply Fin.ext; simp only []; omega
  · simp only []; omega

end Cert.KernelIdealProof

end
-- ==== Proof.Decode.lean ====
/-
  The decode read at an element: each 4-bit code becomes the value of its own column's table entry, whatever the order the
  words pack the codes in.
-/
module

public import proofs.«01_k».proof.Proof.Lookup

@[expose] public section

noncomputable section

namespace Cert.KernelIdealProof

open Cert.KernelIdeal Cert.KernelIdeal.Gen

open Idealize.ShloMosaic
open Idealize.ShloMosaic.TcCoe

variable {F : FTy → Type} [FloatOps F]

theorem and_bit (x : IVec S8x128 32) (m : BitVec 32) (j : S8x128.Idx) (q : ℕ) :
    (andi x (broadcast S8x128 m) j).getLsbD q = ((x j).getLsbD q && m.getLsbD q) := BitVec.getLsbD_and

theorem or_bit (x y : IVec S8x128 32) (j : S8x128.Idx) (q : ℕ) :
    (ori x y j).getLsbD q = ((x j).getLsbD q || (y j).getLsbD q) := BitVec.getLsbD_or

theorem shr4_bit (x : IVec S8x128 32) (j : S8x128.Idx) (q : ℕ) :
    (shrui x (broadcast S8x128 4#32) j).getLsbD q = (x j).getLsbD (4 + q) := by
  change (IntOp.shrui .vector (x j) 4#32).getLsbD q = _
  simp [IntOp.shrui, BitVec.getLsbD_ushiftRight]

theorem shr8_bit (x : IVec S8x128 32) (j : S8x128.Idx) (q : ℕ) :
    (shrui x (broadcast S8x128 8#32) j).getLsbD q = (x j).getLsbD (8 + q) := by
  change (IntOp.shrui .vector (x j) 8#32).getLsbD q = _
  simp [IntOp.shrui, BitVec.getLsbD_ushiftRight]

theorem shl8_bit (x : IVec S8x128 32) (j : S8x128.Idx) (q : ℕ) :
    (shli x (broadcast S8x128 8#32) j).getLsbD q = (decide (q < 32) && (!decide (q < 8) && (x j).getLsbD (q - 8))) := by
  change (IntOp.shli .vector (x j) 8#32).getLsbD q = _
  simp [IntOp.shli, BitVec.getLsbD_shiftLeft, Bool.and_assoc]

/-- The masks' bits. -/
theorem maskNib (q : Fin 32) : (252645135#32).getLsbD q.val = decide (q.val % 8 < 4) := by decide +revert
theorem maskLo (q : Fin 32) : (16711935#32).getLsbD q.val = decide (q.val % 16 < 8) := by decide +revert
theorem maskHi (q : Fin 32) : (4278255360#32).getLsbD q.val = decide (8 ≤ q.val % 16) := by decide +revert

/-- The packed words of 32 rows of codes. -/
theorem words_bit (w : IVec S128x128 8) (o : ℕ) (ho : o + 32 ≤ 128) (h : S128x128.Slices ![o, 0] S32x128) (a : Fin 8) (n : Fin 128)
    (q : ℕ) (hq : q < 32) :
    (words w o h (ix2 a n)).getLsbD q = (w (ix2 n ⟨o + (4 * a.val + q / 8), by omega⟩)).getLsbD (q % 8) := by
  unfold words
  rw [word_bit _ _ _ _ hq]
  refine congrArg (fun z : BitVec 8 => z.getLsbD (q % 8)) ?_
  refine (extractStridedSlice_apply _ _ h _ (ix2 ⟨o + (4 * a.val + q / 8), by omega⟩ n) (fun c => ?_)).trans ?_
  · match c with
    | ⟨0, _⟩ => rfl
    | ⟨1, _⟩ => exact (Nat.zero_add _).symm
  · pointwise

/-- Row `r` of the low nibbles of packed words. -/
theorem nibLo_byte (w : IVec S128x128 8) (o : ℕ) (ho : o + 32 ≤ 128) (h : S128x128.Slices ![o, 0] S32x128) (r : Fin 32) (n : Fin 128) :
    bitcast S32x128 8 (nibLo (words w o h)) bitcasts_S8x128_w32_S32x128_w8 (ix2 r n) = w (ix2 n ⟨o + r.val, by omega⟩) &&& 15#8 := by
  apply BitVec.eq_of_getLsbD_eq
  intro q hq
  have m15 : (15#8).getLsbD q = decide (q < 4) := by
    have := (show ∀ q : Fin 8, (15#8).getLsbD q.val = decide (q.val < 4) by decide) ⟨q, hq⟩; exact this
  have hm := maskNib ⟨8 * (r.val % 4) + q, by omega⟩
  rw [byte_bit _ _ _ _ hq]
  unfold nibLo
  rw [and_bit, words_bit w o ho h _ _ _ (by omega), hm, BitVec.getLsbD_and, m15]
  have e1 : o + (4 * (r.val / 4) + (8 * (r.val % 4) + q) / 8) = o + r.val := by omega
  have e2 : (8 * (r.val % 4) + q) % 8 = q := by omega
  simp only [e1, e2]

/-- Row `r` of the high nibbles. -/
theorem nibHi_byte (w : IVec S128x128 8) (o : ℕ) (ho : o + 32 ≤ 128) (h : S128x128.Slices ![o, 0] S32x128) (r : Fin 32) (n : Fin 128) :
    bitcast S32x128 8 (nibHi (words w o h)) bitcasts_S8x128_w32_S32x128_w8 (ix2 r n) = w (ix2 n ⟨o + r.val, by omega⟩) >>> 4 := by
  apply BitVec.eq_of_getLsbD_eq
  intro q hq
  have hm := maskNib ⟨8 * (r.val % 4) + q, by omega⟩
  have e2 : (8 * (r.val % 4) + q) % 8 = q := by omega
  rw [byte_bit _ _ _ _ hq]
  unfold nibHi
  rw [and_bit, shr4_bit, hm, BitVec.getLsbD_ushiftRight]
  by_cases h4 : q < 4
  · rw [words_bit w o ho h _ _ _ (by omega)]
    have e1 : o + (4 * (r.val / 4) + (4 + (8 * (r.val % 4) + q)) / 8) = o + r.val := by omega
    have e3 : (4 + (8 * (r.val % 4) + q)) % 8 = 4 + q := by omega
    simp only [e1, e2, e3, h4, decide_true, Bool.and_true]
  · rw [BitVec.getLsbD_of_ge _ (4 + q) (by omega)]
    simp only [e2, h4, decide_false, Bool.and_false]

/-- A looked-up byte, in its word. -/
theorem look_bit (tab : IVec S32x128 8) (codes : IVec S8x128 32) (C : Fin 32 → Fin 128 → Fin 16)
    (hC : ∀ r n, (bitcast S32x128 8 codes bitcasts_S8x128_w32_S32x128_w8 (ix2 r n)).toNat = (C r n).val)
    (a : Fin 8) (n : Fin 128) (q : ℕ) (hq : q < 32) :
    (look tab codes (ix2 a n)).getLsbD q
      = (tab (ix2 ⟨(C ⟨4 * a.val + q / 8, by omega⟩ n).val, by omega⟩ n)).getLsbD (q % 8) := by
  unfold look
  rw [word_bit _ _ _ _ hq, lookup_apply _ _ _ _ ⟨(C ⟨4 * a.val + q / 8, by omega⟩ n).val, by omega⟩ (hC _ _)]

section Dec

variable (t : IVec S128x16 16) (codes : IVec S8x128 32) (C : Fin 32 → Fin 128 → Fin 16)
    (hC : ∀ r n, (bitcast S32x128 8 codes bitcasts_S8x128_w32_S32x128_w8 (ix2 r n)).toNat = (C r n).val)

include hC

/-- Row `r` of the even rows is decoded from row `2 r` of the codes; -/
theorem decE_apply (r : Fin 16) (n : Fin 128) :
    (decE t codes : FVec F S16x128 .bf16) (ix2 r n) = FloatOps.ofBits .bf16 (t (ix2 n (C ⟨2 * r.val, by omega⟩ n))) := by
  refine congrArg (FloatOps.ofBits (F := F) .bf16) ?_
  apply BitVec.eq_of_getLsbD_eq
  intro q hq
  have hl := maskLo ⟨16 * (r.val % 2) + q, by omega⟩
  have hh := maskHi ⟨16 * (r.val % 2) + q, by omega⟩
  rw [half_bit _ _ _ _ hq]
  unfold evenW
  rw [or_bit, and_bit, and_bit, shl8_bit, hl, hh]
  have e0 : (16 * (r.val % 2) + q) % 16 = q := by omega
  by_cases h8 : q < 8
  · rw [look_bit _ _ C hC _ _ _ (by omega)]
    have e1 : 4 * (r.val / 2) + (16 * (r.val % 2) + q) / 8 = 2 * r.val := by omega
    have e2 : (16 * (r.val % 2) + q) % 8 = q := by omega
    simp only [e0, e1, e2, h8, decide_true, Bool.and_true, show ¬ 8 ≤ q by omega, decide_false, Bool.and_false, Bool.or_false]
    exact tLo_bit t _ _ rfl n q h8
  · rw [look_bit (tHi t) _ C hC _ _ _ (by omega)]
    have e1 : 4 * (r.val / 2) + (16 * (r.val % 2) + q - 8) / 8 = 2 * r.val := by omega
    have e2 : (16 * (r.val % 2) + q - 8) % 8 = q - 8 := by omega
    simp only [e0, e1, e2, h8, show 16 * (r.val % 2) + q < 32 by omega, show ¬ 16 * (r.val % 2) + q < 8 by omega, decide_true, Bool.and_true,
      Bool.true_and, Bool.not_false, show 8 ≤ q by omega, decide_false, Bool.and_false, Bool.false_or]
    rw [tHi_bit t (C ⟨2 * r.val, by omega⟩ n) _ rfl n (q - 8) (by omega), show 8 + (q - 8) = q by omega]

/-- and row `r` of the odd rows from row `2 r + 1`. -/
theorem decO_apply (r : Fin 16) (n : Fin 128) :
    (decO t codes : FVec F S16x128 .bf16) (ix2 r n) = FloatOps.ofBits .bf16 (t (ix2 n (C ⟨2 * r.val + 1, by omega⟩ n))) := by
  refine congrArg (FloatOps.ofBits (F := F) .bf16) ?_
  apply BitVec.eq_of_getLsbD_eq
  intro q hq
  have hl := maskLo ⟨16 * (r.val % 2) + q, by omega⟩
  have hh := maskHi ⟨16 * (r.val % 2) + q, by omega⟩
  rw [half_bit _ _ _ _ hq]
  unfold oddW
  rw [or_bit, and_bit, and_bit, shr8_bit, hl, hh]
  have e0 : (16 * (r.val % 2) + q) % 16 = q := by omega
  by_cases h8 : q < 8
  · rw [look_bit _ _ C hC _ _ _ (by omega)]
    have e1 : 4 * (r.val / 2) + (8 + (16 * (r.val % 2) + q)) / 8 = 2 * r.val + 1 := by omega
    have e2 : (8 + (16 * (r.val % 2) + q)) % 8 = q := by omega
    simp only [e0, e1, e2, h8, decide_true, Bool.and_true, show ¬ 8 ≤ q by omega, decide_false, Bool.and_false, Bool.or_false]
    exact tLo_bit t _ _ rfl n q h8
  · rw [look_bit (tHi t) _ C hC _ _ _ (by omega)]
    have e1 : 4 * (r.val / 2) + (16 * (r.val % 2) + q) / 8 = 2 * r.val + 1 := by omega
    have e2 : (16 * (r.val % 2) + q) % 8 = q - 8 := by omega
    simp only [e0, e1, e2, h8, decide_true, Bool.and_true, show 8 ≤ q by omega, decide_false, Bool.and_false, Bool.false_or]
    rw [tHi_bit t (C ⟨2 * r.val + 1, by omega⟩ n) _ rfl n (q - 8) (by omega), show 8 + (q - 8) = q by omega]

end Dec

end Cert.KernelIdealProof

end
-- ==== Proof.Half.lean ====
/-
  The right operand of a product read at an element, and one product as a sum.
-/
module

public import proofs.«01_k».proof.Proof.Decode
public import Idealize.ShloMosaic.PureOps.Ideal.Laws

@[expose] public section

noncomputable section

namespace Cert.KernelIdealProof

open Cert.KernelIdeal Cert.KernelIdeal.Gen

open Idealize.ShloMosaic
open Idealize.ShloMosaic.TcCoe

/-- The row of codes, and the column of activations, that position `p` of the contraction takes: in each group of 32, first the
    even ones and then the odd ones. -/
def rowSrc (p : ℕ) : ℕ := p - p % 32 + (if p % 32 < 16 then 2 * (p % 32) else 2 * (p % 32) - 31)

theorem rowSrc_lt (p N : ℕ) (h : p < 32 * N) : rowSrc p < 32 * N := by
  unfold rowSrc; split <;> omega

theorem rowSrc_add (p o : ℕ) (h : o % 32 = 0) : rowSrc (o + p) = o + rowSrc p := by
  have e : (o + p) % 32 = p % 32 := by omega
  unfold rowSrc; rw [e]; split <;> omega

/-- The two codes of a byte. -/
def codLo (b : BitVec 8) : Fin 16 := ⟨(b &&& 15#8).toNat, by
  rw [BitVec.toNat_and]; exact lt_of_le_of_lt Nat.and_le_right (by decide)⟩
def codHi (b : BitVec 8) : Fin 16 := ⟨(b >>> 4).toNat, by
  rw [BitVec.toNat_ushiftRight, Nat.shiftRight_eq_div_pow]; have := b.isLt; omega⟩

/-- `nib` takes out of packed words the codes that `cod` takes out of their bytes. -/
def NibCod (nib : IVec S8x128 32 → IVec S8x128 32) (cod : BitVec 8 → Fin 16) : Prop :=
  ∀ (w : IVec S128x128 8) (o : ℕ) (ho : o + 32 ≤ 128) (h : S128x128.Slices ![o, 0] S32x128) (r : Fin 32) (n : Fin 128),
    (bitcast S32x128 8 (nib (words w o h)) bitcasts_S8x128_w32_S32x128_w8 (ix2 r n)).toNat
      = (cod (w (ix2 n ⟨o + r.val, by omega⟩))).val

theorem nibCod_lo : NibCod nibLo codLo := fun w o ho h r n => by rw [nibLo_byte w o ho h r n]; rfl
theorem nibCod_hi : NibCod nibHi codHi := fun w o ho h r n => by rw [nibHi_byte w o ho h r n]; rfl

variable {F : FTy → Type} [FloatOps F]

theorem slices32 (o : ℕ) (ho : o + 32 ≤ 128) : S128x128.Slices ![o, 0] S32x128 :=
  ⟨rfl, Fin.forall_fin_two.mpr ⟨ho, le_refl 128⟩⟩

/-- Sixteen rows of a right operand. -/
def blk (nib : IVec S8x128 32 → IVec S8x128 32) (t : IVec S128x16 16) (wa wb : IVec S128x128 8) (k : Fin 16) : FVec F S16x128 .bf16 :=
  if k.val % 2 = 0 then decE t (nib (words (if k.val < 8 then wa else wb) (32 * (k.val / 2 % 4)) (slices32 _ (by omega))))
  else decO t (nib (words (if k.val < 8 then wa else wb) (32 * (k.val / 2 % 4)) (slices32 _ (by omega))))

theorem half_eq (nib : IVec S8x128 32 → IVec S8x128 32) (t : IVec S128x16 16) (wa wb : IVec S128x128 8)
    (h : Shape.Concatenates ((List.ofFn fun k : Fin 16 => (⟨S16x128, blk (F := F) nib t wa wb k⟩ : (s : Shape) × (s.Idx → F .bf16))).map (·.1)) S256x128 0) :
    (half nib t wa wb : FVec F S256x128 .bf16)
      = concatenate S256x128 0 (List.ofFn fun k : Fin 16 => (⟨S16x128, blk nib t wa wb k⟩ : (s : Shape) × (s.Idx → F .bf16))) h := by
  chain_rfl

/-- Row `p`, column `n` of a right operand: the value of column `n`'s table at the code in row `rowSrc p`. -/
theorem half_apply (nib : IVec S8x128 32 → IVec S8x128 32) (cod : BitVec 8 → Fin 16) (hn : NibCod nib cod) (t : IVec S128x16 16)
    (wa wb : IVec S128x128 8) (G : Fin 128 → Fin 256 → BitVec 8) (ha : ∀ n (k : Fin 128), wa (ix2 n k) = G n ⟨k.val, by omega⟩)
    (hb : ∀ n (k : Fin 128), wb (ix2 n k) = G n ⟨k.val + 128, by omega⟩) (p : Fin 256) (n : Fin 128) :
    (half nib t wa wb : FVec F S256x128 .bf16) (ix2 p n)
      = FloatOps.ofBits .bf16 (t (ix2 n (cod (G n ⟨rowSrc p.val, rowSrc_lt p.val 8 p.isLt⟩)))) := by
  refine (congrFun (half_eq nib t wa wb
    concatenates_S16x128_S16x128_S16x128_S16x128_S16x128_S16x128_S16x128_S16x128_S16x128_S16x128_S16x128_S16x128_S16x128_S16x128_S16x128_S16x128_S256x128_d0)
    (ix2 p n)).trans ((concatenate_ofFn_apply (t := S256x128) (s₁ := S16x128) 0 (blk nib t wa wb) _ rfl 16 rfl (ix2 p n)
      ⟨p.val / 16, by omega⟩ rfl (ix2 ⟨p.val % 16, by omega⟩ n) rfl (fun b hb => by
        match b with
        | ⟨0, _⟩ => exact absurd rfl hb
        | ⟨1, _⟩ => rfl)).trans ?_)
  have hw : ∀ k : Fin 16, ∀ (j : Fin 128), (if k.val < 8 then wa else wb) (ix2 n j) = G n ⟨j.val + 128 * (k.val / 8), by omega⟩ := by
    intro k j
    split
    · rw [ha]; congr 1; apply Fin.ext; simp only []; omega
    · rw [hb]; congr 1; apply Fin.ext; simp only []; omega
  unfold blk
  split
  · rename_i h0
    rw [decE_apply t _ (fun r n => cod ((if p.val / 16 < 8 then wa else wb) (ix2 n ⟨32 * (p.val / 16 / 2 % 4) + r.val, by omega⟩)))
      (fun r n => hn _ _ (by omega) _ r n)]
    simp only []
    rw [hw ⟨p.val / 16, by omega⟩]
    congr 5
    apply Fin.ext
    dsimp only [rowSrc] at h0 ⊢
    split <;> omega
  · rename_i h0
    rw [decO_apply t _ (fun r n => cod ((if p.val / 16 < 8 then wa else wb) (ix2 n ⟨32 * (p.val / 16 / 2 % 4) + r.val, by omega⟩)))
      (fun r n => hn _ _ (by omega) _ r n)]
    simp only []
    rw [hw ⟨p.val / 16, by omega⟩]
    congr 5
    apply Fin.ext
    dsimp only [rowSrc] at h0 ⊢
    split <;> omega

/-- One product is a sum of 256 products. -/
theorem dot_apply (x : FVec Ideal S96x256 .bf16) (a b : FVec Ideal S256x128 .bf16) (R : Fin 256 → Fin 256 → EReal)
    (ha : ∀ k (m : Fin 128), a (ix2 k m) = R k ⟨m.val, by omega⟩) (hb : ∀ k (m : Fin 128), b (ix2 k m) = R k ⟨m.val + 128, by omega⟩)
    (r : Fin 96) (n : Fin 256) : dot x a b (ix2 r n) = ∑ k : Fin 256, x (ix2 r k) * R k n := by
  have hR : ∀ k : Fin 256, concatenate S256x256 1 [⟨S256x128, a⟩, ⟨S256x128, b⟩] concatenates_S256x128_S256x128_S256x256_d1 (ix2 k n) = R k n := by
    intro k
    by_cases h : n.val < 128
    · rw [concatenate_apply_piece (t := S256x256) 1 [⟨S256x128, a⟩, ⟨S256x128, b⟩] _ (ix2 k n) 0 Nat.zero_lt_two S256x128 a rfl rfl 0 rfl
        (ix2 k ⟨n.val, h⟩) (fun c hc => by match c with | ⟨0, _⟩ => rfl | ⟨1, _⟩ => exact absurd rfl hc) (Nat.zero_add _), ha]
    · rw [concatenate_apply_piece (t := S256x256) 1 [⟨S256x128, a⟩, ⟨S256x128, b⟩] _ (ix2 k n) 1 Nat.one_lt_two S256x128 b rfl rfl 128 rfl
        (ix2 k ⟨n.val - 128, by omega⟩) (fun c hc => by match c with | ⟨0, _⟩ => rfl | ⟨1, _⟩ => exact absurd rfl hc)
        (by show 128 + (n.val - 128) = n.val; omega), hb]
      congr 1; apply Fin.ext; show n.val - 128 + 128 = n.val; omega
  unfold dot
  generalize concatenate S256x256 1 [⟨S256x128, a⟩, ⟨S256x128, b⟩] concatenates_S256x128_S256x128_S256x256_d1 = B at hR
  have : ∀ k, B (ix2 k n) = R k n := hR
  pointwise
  simp only [this]

end Cert.KernelIdealProof

end
-- ==== Proof.Permute.lean ====
/-
  The permuted copy of the activations, read at an element: column `k` of it is column `rowSrc k` of the activations.
-/
module

public import proofs.«01_k».proof.Proof.Half

@[expose] public section

noncomputable section

namespace Cert.KernelIdealProof

open Cert.KernelIdeal Cert.KernelIdeal.Gen

open Idealize.ShloMosaic
open Idealize.ShloMosaic.TcCoe

/-- The gather's column number, wrapped into the 128 lanes. -/
theorem srcCol_apply (r : Fin 96) (j : Fin 128) :
    (select (cmpi .slt srcCol (broadcast S96x128 0#32)) (addi srcCol (broadcast S96x128 128#32)) srcCol (ix2 r j)).toNat % 128
      = rowSrc j.val := by
  pointwise [srcCol]
  clear r
  unfold rowSrc
  decide +revert

/-- 128 columns permuted: column `j` is column `rowSrc j`. -/
theorem permuted_apply (x : FVec Ideal S24x4x128 .bf16) (r : Fin 96) (j : Fin 128) :
    permuted x (ix2 r j) = x (ix3 ⟨r.val / 4, by omega⟩ ⟨r.val % 4, by omega⟩ ⟨rowSrc j.val, rowSrc_lt j.val 4 j.isLt⟩) := by
  have hs := srcCol_apply r j
  unfold permuted
  generalize select (cmpi .slt srcCol (broadcast S96x128 0#32)) (addi srcCol (broadcast S96x128 128#32)) srcCol = idx at hs
  pointwise
  simp only [hs]

section Scratch

variable (c : Dev nD) (M1 : Memref sig .tc .vmem S24x4x2048 .bf16) (M5 : Memref sig .tc .vmem S96x2048 .bf16)
    (f1 : Bf (F := Ideal) c M1) (f5 : Bf (F := Ideal) c M5)

/-- The permuted activations: row `4 a + b` is row `(a, b)`, column `k` is column `rowSrc k`. -/
def permX (X1 : S24x4x2048.Idx → Ideal .bf16) : S96x2048.Idx → Ideal .bf16 := fun y =>
  X1 (ix3 ⟨(y 0).val / 4, by have : (y 0).val < 96 := (y 0).isLt; omega⟩ ⟨(y 0).val % 4, by omega⟩ ⟨rowSrc (y 1).val, rowSrc_lt (y 1).val 64 (y 1).isLt⟩)

/-- The sixteen stores, by their number. -/
theorem storesX_eq : storesX c M1 f1
    = [15, 14, 13, 12, 11, 10, 9, 8, 7, 6, 5, 4, 3, 2, 1, 0].map fun k : Fin 16 => storeX c M1 f1 (128 * k.val) (by omega) := rfl

theorem storeX_apply (k : ℕ) (h32 : k % 32 = 0) (hk : k + 128 ≤ 2048) (x : (storeX c M1 f1 k hk).1.shape.Idx) :
    (storeX c M1 f1 k hk).2 x = permX (M1.view.read (Elt Ideal) f1) ((storeX c M1 f1 k hk).1.emb x) := by
  obtain ⟨r, j, rfl⟩ : ∃ (r : Fin 96) (j : Fin 128), x = ix2 r j := ⟨x 0, x 1, by funext a; match a with | ⟨0, _⟩ => rfl | ⟨1, _⟩ => rfl⟩
  refine (permuted_apply _ r j).trans ?_
  rw [View.readAt_eq_ld, View.ld_unit]
  refine (extractStridedSlice_apply _ _ _ _ (ix3 ⟨r.val / 4, by omega⟩ ⟨r.val % 4, by omega⟩
    ⟨rowSrc (k + j.val), rowSrc_lt _ 64 (by omega)⟩) fun a => ?_).trans ?_
  · match a with
    | ⟨0, _⟩ => exact (Nat.zero_add _).symm
    | ⟨1, _⟩ => exact (Nat.zero_add _).symm
    | ⟨2, _⟩ => exact rowSrc_add _ _ h32
  · unfold permX
    refine congrArg _ (funext fun a => Fin.ext ?_)
    match a with
    | ⟨0, _⟩ => show r.val / 4 = (0 + 1 * r.val) / 4; rw [Nat.zero_add, Nat.one_mul]
    | ⟨1, _⟩ => show r.val % 4 = (0 + 1 * r.val) % 4; rw [Nat.zero_add, Nat.one_mul]
    | ⟨2, _⟩ => show rowSrc (k + j.val) = rowSrc (k + 1 * j.val); rw [Nat.one_mul]

/-- The scratch as the stores leave it, whatever it held. -/
theorem read_storesX : M5.view.read (Elt Ideal) (M5.view.writes (Elt Ideal) f5 (storesX c M1 f1)) = permX (M1.view.read (Elt Ideal) f1) := by
  have hc : ∀ y : S96x2048.Idx, ∃ p ∈ storesX c M1 f1, y ∈ p.1.set := by
    intro y
    have h0 : (y 0).val < 96 := (y 0).isLt
    have h1 : (y 1).val < 2048 := (y 1).isLt
    refine ⟨storeX c M1 f1 (128 * ((y 1).val / 128)) (by omega), ?_, ?_⟩
    · rw [storesX_eq, List.mem_map]
      refine ⟨⟨(y 1).val / 128, by omega⟩, ?_, rfl⟩
      exact (show ∀ k : Fin 16, k ∈ [15, 14, 13, 12, 11, 10, 9, 8, 7, 6, 5, 4, 3, 2, 1, 0] by decide) _
    · unfold storeX
      rw [Rect.mem_set_unit]
      intro a
      match a with
      | ⟨0, _⟩ => exact ⟨Nat.zero_le _, by show (y 0).val < 0 + 96; omega⟩
      | ⟨1, _⟩ => exact ⟨by show 128 * ((y 1).val / 128) ≤ (y 1).val; omega, by show (y 1).val < 128 * ((y 1).val / 128) + 128; omega⟩
  rw [View.read_writes_eq_canon _ _ _ hc]
  funext y
  refine View.canon_apply_of_pieces _ _ (fun p hp x => ?_) y (hc y)
  rw [storesX_eq, List.mem_map] at hp
  obtain ⟨k, -, rfl⟩ := hp
  exact storeX_apply c M1 f1 (128 * k.val) (by omega) (by omega) x

end Scratch

end Cert.KernelIdealProof

end
-- ==== Proof.Block.lean ====
/-
  One block of the result as the body stores it: each element is a sum over all 2048 columns of the activations, in the order of
  the activations.
-/
module

public import proofs.«01_k».proof.Proof.Permute

@[expose] public section

noncomputable section

namespace Cert.KernelIdealProof

open Cert.KernelIdeal Cert.KernelIdeal.Gen

open Idealize.ShloMosaic
open Idealize.ShloMosaic.TcCoe

/-- The weight at column `s` of a row of the matrix: of the codes `wr` (the first 1024 columns their low halves, the others their
    high halves) by the table `tr` of 16-bit patterns. -/
def weight (wr : Fin 1024 → BitVec 8) (tr : Fin 16 → BitVec 16) (s : Fin 2048) : EReal :=
  Ideal.ofBits .bf16 (tr (if h : s.val < 1024 then codLo (wr ⟨s.val, h⟩) else codHi (wr ⟨s.val - 1024, by omega⟩)))

/-- The linear layer at one row of activations and one row of the matrix. -/
def linear (xr : Fin 2048 → EReal) (wr : Fin 1024 → BitVec 8) (tr : Fin 16 → BitVec 16) : EReal :=
  ∑ s : Fin 2048, xr s * weight wr tr s

/-- The order the contraction runs in is a permutation of the columns. -/
def src (k : Fin 2048) : Fin 2048 := ⟨rowSrc k.val, rowSrc_lt k.val 64 k.isLt⟩

theorem src_bijective : Function.Bijective src := by
  refine Finite.injective_iff_bijective.mp fun a b h => ?_
  have h' : rowSrc a.val = rowSrc b.val := congrArg Fin.val h
  apply Fin.ext
  unfold rowSrc at h'
  split at h' <;> split at h' <;> omega

/-- A sum over 2048 as eight sums over 256. -/
theorem sum_eight (f : Fin 2048 → EReal) :
    ∑ k : Fin 2048, f k = ∑ b : Fin 8, ∑ p : Fin 256, f ⟨256 * b.val + p.val, by omega⟩ := by
  rw [← Fintype.sum_prod_type' (f := fun (b : Fin 8) (p : Fin 256) => f ⟨256 * b.val + p.val, by omega⟩)]
  refine (Fintype.sum_equiv (finProdFinEquiv (m := 8) (n := 256)) _ _ fun x => ?_).symm
  refine congrArg f (Fin.ext ?_)
  show 256 * x.1.val + x.2.val = x.2.val + 256 * x.1.val
  omega

theorem permX_apply (X1 : S24x4x2048.Idx → Ideal .bf16) (r : Fin 96) (k : Fin 2048) :
    permX X1 (ix2 r k) = X1 (ix3 ⟨r.val / 4, by omega⟩ ⟨r.val % 4, by omega⟩ (src k)) := rfl

section Body

variable (c : Dev nD)
    (M1 : Memref sig .tc .vmem S24x4x2048 .bf16) (M2 : Memref sig .tc .vmem S1024x1024 .i8)
    (M3 : Memref sig .tc .vmem S1024x16 .i16) (M4 : Memref sig .tc .vmem S24x4x1024 .bf16) (M5 : Memref sig .tc .vmem S96x2048 .bf16)
    (f1 : Bf (F := Ideal) c M1) (f2 : Bf (F := Ideal) c M2) (f3 : Bf (F := Ideal) c M3) (f5 : Bf (F := Ideal) c M5)

theorem ldW_apply (n k : ℕ) (h : n + 128 ≤ 1024 ∧ k + 128 ≤ 1024) (a b : Fin 128) :
    ldW c M2 f2 n k h (ix2 a b) = M2.view.read (Elt Ideal) f2 (ix2 ⟨n + a.val, by omega⟩ ⟨k + b.val, by omega⟩) := by
  unfold ldW
  rw [View.readAt_eq_ld, View.ld_unit]
  exact extractStridedSlice_apply _ _ _ _ (ix2 ⟨n + a.val, by omega⟩ ⟨k + b.val, by omega⟩) fun d => by
    match d with
    | ⟨0, _⟩ => rfl
    | ⟨1, _⟩ => rfl

theorem ldT_apply (n : ℕ) (h : n + 128 ≤ 1024) (a : Fin 128) (l : Fin 16) :
    ldT c M3 f3 n h (ix2 a l) = M3.view.read (Elt Ideal) f3 (ix2 ⟨n + a.val, by omega⟩ l) := by
  unfold ldT
  rw [View.readAt_eq_ld, View.ld_unit]
  exact extractStridedSlice_apply _ _ _ _ (ix2 ⟨n + a.val, by omega⟩ l) fun d => by
    match d with
    | ⟨0, _⟩ => rfl
    | ⟨1, _⟩ => exact (Nat.zero_add _).symm

theorem ldX_apply (k : ℕ) (h : k + 256 ≤ 2048) (r : Fin 96) (p : Fin 256) :
    ldX c M5 f5 k h (ix2 r p) = M5.view.read (Elt Ideal) f5 (ix2 r ⟨k + p.val, by omega⟩) := by
  unfold ldX
  rw [View.readAt_eq_ld, View.ld_unit]
  exact extractStridedSlice_apply _ _ _ _ (ix2 r ⟨k + p.val, by omega⟩) fun d => by
    match d with
    | ⟨0, _⟩ => exact (Nat.zero_add _).symm
    | ⟨1, _⟩ => rfl

/-- A right operand's element. -/
theorem col_apply (nib : IVec S8x128 32 → IVec S8x128 32) (cod : BitVec 8 → Fin 16) (hc : NibCod nib cod) (n k : ℕ)
    (hn : n + 128 ≤ 1024) (hk : k + 256 ≤ 1024) (p : Fin 256) (m : Fin 128) :
    col (F := Ideal) c M2 M3 f2 f3 nib n k hn hk (ix2 p m)
      = Ideal.ofBits .bf16 (M3.view.read (Elt Ideal) f3 (ix2 ⟨n + m.val, by omega⟩
          (cod (M2.view.read (Elt Ideal) f2 (ix2 ⟨n + m.val, by omega⟩ ⟨k + rowSrc p.val, by have := rowSrc_lt p.val 8 p.isLt; omega⟩))))) := by
  unfold col
  rw [half_apply nib cod hc _ _ _ (fun a b => M2.view.read (Elt Ideal) f2 (ix2 ⟨n + a.val, by omega⟩ ⟨k + b.val, by omega⟩))
    (fun a b => ldW_apply c M2 f2 n k _ a b)
    (fun a b => (ldW_apply c M2 f2 n (k + 128) _ a b).trans (by congr 2; apply Fin.ext; show k + 128 + b.val = k + (b.val + 128); omega)),
    ldT_apply]
  rfl

/-- One product's element. -/
theorem prod_apply (nib : IVec S8x128 32 → IVec S8x128 32) (cod : BitVec 8 → Fin 16) (hc : NibCod nib cod) (n k kx : ℕ)
    (hn : n + 256 ≤ 1024) (hk : k + 256 ≤ 1024) (hx : kx + 256 ≤ 2048) (r : Fin 96) (j : Fin 256) :
    prod (F := Ideal) c M2 M3 M5 f2 f3 f5 nib n k kx hn hk hx (ix2 r j)
      = ∑ p : Fin 256, M5.view.read (Elt Ideal) f5 (ix2 r ⟨kx + p.val, by omega⟩)
          * Ideal.ofBits .bf16 (M3.view.read (Elt Ideal) f3 (ix2 ⟨n + j.val, by omega⟩
            (cod (M2.view.read (Elt Ideal) f2 (ix2 ⟨n + j.val, by omega⟩ ⟨k + rowSrc p.val, by have := rowSrc_lt p.val 8 p.isLt; omega⟩))))) := by
  unfold prod
  rw [dot_apply _ _ _ (fun p j => Ideal.ofBits .bf16 (M3.view.read (Elt Ideal) f3 (ix2 ⟨n + j.val, by omega⟩
            (cod (M2.view.read (Elt Ideal) f2 (ix2 ⟨n + j.val, by omega⟩ ⟨k + rowSrc p.val, by have := rowSrc_lt p.val 8 p.isLt; omega⟩))))))
    (fun p m => col_apply c M2 M3 f2 f3 nib cod hc n k _ hk p m)
    (fun p m => (col_apply c M2 M3 f2 f3 nib cod hc (n + 128) k _ hk p m).trans (by
      have e : n + 128 + m.val = n + (m.val + 128) := by omega
      simp only [e]))]
  exact Finset.sum_congr rfl fun p _ => by rw [ldX_apply]

variable (X1 : S24x4x2048.Idx → Ideal .bf16) (h5 : M5.view.read (Elt Ideal) f5 = permX X1)

/-- One term of the layer's sum, at row `r` of the activations and row `n` of the block. -/
def term (n : Fin 1024) (r : Fin 96) (s : Fin 2048) : EReal :=
  X1 (ix3 ⟨r.val / 4, by omega⟩ ⟨r.val % 4, by omega⟩ s)
    * weight (fun k => M2.view.read (Elt Ideal) f2 (ix2 n k)) (fun l => M3.view.read (Elt Ideal) f3 (ix2 n l)) s

include h5

/-- A product of the low halves. -/
theorem prodLo_apply (n k : ℕ) (h32 : k % 32 = 0) (hn : n + 256 ≤ 1024) (hk : k + 256 ≤ 1024) (hx : k + 256 ≤ 2048) (r : Fin 96) (j : Fin 256) :
    prod (F := Ideal) c M2 M3 M5 f2 f3 f5 nibLo n k k hn hk hx (ix2 r j)
      = ∑ p : Fin 256, term c M2 M3 f2 f3 X1 ⟨n + j.val, by omega⟩ r (src ⟨k + p.val, by omega⟩) := by
  rw [prod_apply _ _ _ _ _ _ _ _ codLo nibCod_lo]
  refine Finset.sum_congr rfl fun p _ => ?_
  have e : rowSrc (k + p.val) = k + rowSrc p.val := rowSrc_add _ _ h32
  have hlt := rowSrc_lt p.val 8 p.isLt
  rw [h5, permX_apply]
  unfold term weight src
  simp only [e]
  rw [dif_pos (by omega)]

/-- A product of the high halves. -/
theorem prodHi_apply (n k : ℕ) (h32 : k % 32 = 0) (hn : n + 256 ≤ 1024) (hk : k + 256 ≤ 1024) (hx : k + 1024 + 256 ≤ 2048) (r : Fin 96) (j : Fin 256) :
    prod (F := Ideal) c M2 M3 M5 f2 f3 f5 nibHi n k (k + 1024) hn hk hx (ix2 r j)
      = ∑ p : Fin 256, term c M2 M3 f2 f3 X1 ⟨n + j.val, by omega⟩ r (src ⟨k + 1024 + p.val, by omega⟩) := by
  rw [prod_apply _ _ _ _ _ _ _ _ codHi nibCod_hi]
  refine Finset.sum_congr rfl fun p _ => ?_
  have e : rowSrc (k + 1024 + p.val) = k + 1024 + rowSrc p.val := rowSrc_add _ _ (by omega)
  have e' : k + 1024 + rowSrc p.val - 1024 = k + rowSrc p.val := by omega
  have hlt := rowSrc_lt p.val 8 p.isLt
  rw [h5, permX_apply]
  unfold term weight src
  simp only [e]
  rw [dif_neg (by omega)]
  simp only [e']

/-- 256 columns of the block: each element is the layer's sum. -/
theorem acc_apply (n : ℕ) (hn : n + 256 ≤ 1024) (r : Fin 96) (j : Fin 256) :
    acc (F := Ideal) c M2 M3 M5 f2 f3 f5 n hn (ix2 r j)
      = linear (fun s => X1 (ix3 ⟨r.val / 4, by omega⟩ ⟨r.val % 4, by omega⟩ s))
          (fun k => M2.view.read (Elt Ideal) f2 (ix2 ⟨n + j.val, by omega⟩ k)) (fun l => M3.view.read (Elt Ideal) f3 (ix2 ⟨n + j.val, by omega⟩ l)) := by
  have hl : linear (fun s => X1 (ix3 ⟨r.val / 4, by omega⟩ ⟨r.val % 4, by omega⟩ s))
          (fun k => M2.view.read (Elt Ideal) f2 (ix2 ⟨n + j.val, by omega⟩ k)) (fun l => M3.view.read (Elt Ideal) f3 (ix2 ⟨n + j.val, by omega⟩ l))
      = ∑ s : Fin 2048, term c M2 M3 f2 f3 X1 ⟨n + j.val, by omega⟩ r s := rfl
  rw [hl, ← Function.Bijective.sum_comp src_bijective, sum_eight, Fin.sum_univ_eight]
  unfold acc
  simp only [addf_apply]
  rw [prodLo_apply c M2 M3 M5 f2 f3 f5 X1 h5 n 0 rfl, prodLo_apply c M2 M3 M5 f2 f3 f5 X1 h5 n 256 rfl,
    prodLo_apply c M2 M3 M5 f2 f3 f5 X1 h5 n 512 rfl, prodLo_apply c M2 M3 M5 f2 f3 f5 X1 h5 n 768 rfl,
    prodHi_apply c M2 M3 M5 f2 f3 f5 X1 h5 n 0 rfl, prodHi_apply c M2 M3 M5 f2 f3 f5 X1 h5 n 256 rfl,
    prodHi_apply c M2 M3 M5 f2 f3 f5 X1 h5 n 512 rfl, prodHi_apply c M2 M3 M5 f2 f3 f5 X1 h5 n 768 rfl]
  rfl

/-- The block: row `(a, b)`, column `n` is the layer at that row of the activations and row `n` of the codes and tables. -/
theorem block_apply (a : Fin 24) (b : Fin 4) (n : Fin 1024) :
    View.canon [store c M2 M3 M5 f2 f3 f5 768 (by decide), store c M2 M3 M5 f2 f3 f5 512 (by decide),
         store c M2 M3 M5 f2 f3 f5 256 (by decide), store c M2 M3 M5 f2 f3 f5 0 (by decide)] (ix3 a b n)
      = linear (fun s => X1 (ix3 a b s)) (fun k => M2.view.read (Elt Ideal) f2 (ix2 n k)) (fun l => M3.view.read (Elt Ideal) f3 (ix2 n l)) := by
  let G : S24x4x1024.Idx → Ideal .bf16 := fun y => linear (fun s => X1 (ix3 (y 0) (y 1) s))
    (fun k => M2.view.read (Elt Ideal) f2 (ix2 (y 2) k)) (fun l => M3.view.read (Elt Ideal) f3 (ix2 (y 2) l))
  have hG : ∀ (o : ℕ) (ho : o + 256 ≤ 1024) (x : (store c M2 M3 M5 f2 f3 f5 o ho).1.shape.Idx),
      (store c M2 M3 M5 f2 f3 f5 o ho).2 x = G ((store c M2 M3 M5 f2 f3 f5 o ho).1.emb x) := by
    intro o ho x
    obtain ⟨u, v, j, rfl⟩ : ∃ (u : Fin 24) (v : Fin 4) (j : Fin 256), x = ix3 u v j :=
      ⟨x 0, x 1, x 2, by funext a; match a with | ⟨0, _⟩ => rfl | ⟨1, _⟩ => rfl | ⟨2, _⟩ => rfl⟩
    have hp : piece c M2 M3 M5 f2 f3 f5 o ho (ix3 u v j) = acc c M2 M3 M5 f2 f3 f5 o ho (ix2 ⟨4 * u.val + v.val, by omega⟩ j) := by
      unfold piece
      generalize acc c M2 M3 M5 f2 f3 f5 o ho = A
      pointwise
      congr 2
      apply Fin.ext
      show u.val * 4 + v.val = 4 * u.val + v.val
      omega
    refine hp.trans ((acc_apply c M2 M3 M5 f2 f3 f5 X1 h5 o ho _ j).trans ?_)
    have e0 : (4 * u.val + v.val) / 4 = 0 + 1 * u.val := by omega
    have e1 : (4 * u.val + v.val) % 4 = 0 + 1 * v.val := by omega
    have e2 : o + j.val = o + 1 * j.val := by omega
    simp only [e0, e1, e2]
    rfl
  refine View.canon_apply_of_pieces (Val := Elt Ideal) (e := .bf16) G _ (fun p hp x => ?_) (ix3 a b n) ?_
  · simp only [List.mem_cons, List.not_mem_nil, or_false] at hp
    rcases hp with rfl | rfl | rfl | rfl <;> exact hG _ _ x
  · have hm : ∀ (o : ℕ) (ho : o + 256 ≤ 1024), o ≤ n.val → n.val < o + 256 → ix3 a b n ∈ (store c M2 M3 M5 f2 f3 f5 o ho).1.set := by
      intro o ho h1 h2
      unfold store
      rw [Rect.mem_set_unit]
      intro d
      match d with
      | ⟨0, _⟩ => exact ⟨Nat.zero_le _, by show a.val < 0 + 24; omega⟩
      | ⟨1, _⟩ => exact ⟨Nat.zero_le _, by show b.val < 0 + 4; omega⟩
      | ⟨2, _⟩ => exact ⟨h1, h2⟩
    by_cases h1 : n.val < 256
    · exact ⟨store c M2 M3 M5 f2 f3 f5 0 (by decide), by simp, hm _ _ (by omega) (by omega)⟩
    · by_cases h2 : n.val < 512
      · exact ⟨store c M2 M3 M5 f2 f3 f5 256 (by decide), by simp, hm _ _ (by omega) (by omega)⟩
      · by_cases h3 : n.val < 768
        · exact ⟨store c M2 M3 M5 f2 f3 f5 512 (by decide), by simp, hm _ _ (by omega) (by omega)⟩
        · exact ⟨store c M2 M3 M5 f2 f3 f5 768 (by decide), by simp, hm _ _ (by omega) (by omega)⟩

end Body

end Cert.KernelIdealProof

end
-- ==== Proof.Rows.lean ====
/-
  The blocks of the grid's points as rows and columns of the arrays, and the array the kernel is to leave.

  Point `t`'s blocks of the codes and of the tables are rows `1024 t` and on; its block of the result is columns `1024 t` and on.
  At the last point the blocks overhang, and only what lies inside the arrays is spoken of.
-/
module

public import proofs.«01_k».proof.Proof.Block

@[expose] public section

noncomputable section

namespace Cert.KernelIdealProof

open Cert.KernelIdeal Cert.KernelIdeal.Gen

open Idealize.ShloMosaic
open Idealize.ShloMosaic.TcCoe
open Idealize.SL Idealize.SL.RA Idealize.SL.BI Idealize.SL.Sem

variable (m : (ℓ : Loc nD τ sig) → Buf (Elt Ideal) ℓ)

/-- The linear layer over the whole arrays: of activations `x`, codes `w` and tables `t`. -/
def layer (x : S24x4x2048.Idx → Ideal .bf16) (w : S11008x1024.Idx → BitVec 8) (t : S11008x16.Idx → BitVec 16) : S24x4x11008.Idx → Ideal .bf16 :=
  fun y => linear (fun s => x (ix3 (y 0) (y 1) s)) (fun k => w (ix2 (y 2) k)) (fun l => t (ix2 (y 2) l))

theorem layer_apply (x : S24x4x2048.Idx → Ideal .bf16) (w : S11008x1024.Idx → BitVec 8) (t : S11008x16.Idx → BitVec 16)
    (a : Fin 24) (b : Fin 4) (n : Fin 11008) :
    layer x w t (ix3 a b n) = linear (fun s => x (ix3 a b s)) (fun k => w (ix2 n k)) (fun l => t (ix2 n l)) := rfl

/-- What the result array is to hold on device `c`. -/
def target (c : Dev nD) : Buf (Elt Ideal) ((c : Thread nD τ).loc main_v0) :=
  layer (V m c main_arg0) (V m c main_arg1) (V m c main_arg2)

/-! ## The blocks' places -/

theorem first_eq : ∀ t : Fin cfg0.N, first (grid0.coords t) = if t.val = 0 then 1#1 else 0#1 := by decide +kernel

theorem place1 : ∀ t : Fin cfg0.N, win0_1.index t 0 = t.val ∧ win0_1.index t 1 = 0
    ∧ win0_1.xsize (grid0.coords t) 0 = min 1024 (11008 - 1024 * t.val) ∧ win0_1.xsize (grid0.coords t) 1 = 1024 := by decide +kernel

theorem place2 : ∀ t : Fin cfg0.N, win0_2.index t 0 = t.val ∧ win0_2.index t 1 = 0
    ∧ win0_2.xsize (grid0.coords t) 0 = min 1024 (11008 - 1024 * t.val) ∧ win0_2.xsize (grid0.coords t) 1 = 16 := by decide +kernel

theorem place3 : ∀ t : Fin cfg0.N, win0_3.index t 0 = 0 ∧ win0_3.index t 1 = 0 ∧ win0_3.index t 2 = t.val
    ∧ win0_3.xsize (grid0.coords t) 0 = 24 ∧ win0_3.xsize (grid0.coords t) 1 = 4
    ∧ win0_3.xsize (grid0.coords t) 2 = min 1024 (11008 - 1024 * t.val) := by decide +kernel

/-- The activations' block is the whole array. -/
theorem iblk0 (c : Dev nD) (t : Fin cfg0.N) : (iblk m c 0 t : S24x4x2048.Idx → Ideal .bf16) = V m c main_arg0 := by
  funext y
  refine congrArg (V m c main_arg0) (funext fun a => Fin.ext ?_)
  match a with
  | ⟨0, _⟩ => show 0 * 24 + 1 * (y 0).val = (y 0).val; omega
  | ⟨1, _⟩ => show 0 * 4 + 1 * (y 1).val = (y 1).val; omega
  | ⟨2, _⟩ => show 0 * 2048 + 1 * (y 2).val = (y 2).val; omega

/-- A row of the codes' block inside the array, whatever the buffer held before the fetch. -/
theorem codes_row (c : Dev nD) (t : Fin cfg0.N) (d : S1024x1024.Idx → BitVec 8) (n : Fin 1024) (k : Fin 1024) (h : 1024 * t.val + n.val < 11008) :
    win0_1.fill (grid0.coords t) d (iblk m c 1 t) (ix2 n k) = V m c main_arg1 (ix2 ⟨1024 * t.val + n.val, h⟩ k) := by
  obtain ⟨i0, i1, x0, x1⟩ := place1 t
  unfold Pipeline.Window.fill
  rw [dif_pos ((win0_1.moved_iff _ _).mpr fun a => by
    match a with
    | ⟨0, _⟩ => show n.val < win0_1.xsize (grid0.coords t) 0; rw [x0]; omega
    | ⟨1, _⟩ => show k.val < win0_1.xsize (grid0.coords t) 1; rw [x1]; omega)]
  refine congrArg (V m c main_arg1) (funext fun a => Fin.ext ?_)
  match a with
  | ⟨0, _⟩ => show win0_1.index t 0 * 1024 + 1 * n.val = 1024 * t.val + n.val; rw [i0]; omega
  | ⟨1, _⟩ => show win0_1.index t 1 * 1024 + 1 * k.val = k.val; rw [i1]; omega

/-- A row of the tables' block inside the array. -/
theorem tables_row (c : Dev nD) (t : Fin cfg0.N) (d : S1024x16.Idx → BitVec 16) (n : Fin 1024) (l : Fin 16) (h : 1024 * t.val + n.val < 11008) :
    win0_2.fill (grid0.coords t) d (iblk m c 2 t) (ix2 n l) = V m c main_arg2 (ix2 ⟨1024 * t.val + n.val, h⟩ l) := by
  obtain ⟨i0, i1, x0, x1⟩ := place2 t
  unfold Pipeline.Window.fill
  rw [dif_pos ((win0_2.moved_iff _ _).mpr fun a => by
    match a with
    | ⟨0, _⟩ => show n.val < win0_2.xsize (grid0.coords t) 0; rw [x0]; omega
    | ⟨1, _⟩ => show l.val < win0_2.xsize (grid0.coords t) 1; rw [x1]; omega)]
  refine congrArg (V m c main_arg2) (funext fun a => Fin.ext ?_)
  match a with
  | ⟨0, _⟩ => show win0_2.index t 0 * 1024 + 1 * n.val = 1024 * t.val + n.val; rw [i0]; omega
  | ⟨1, _⟩ => show win0_2.index t 1 * 16 + 1 * l.val = l.val; rw [i1]; omega

/-- Point `t`'s part of the array the kernel is to leave. -/
def part (c : Dev nD) (t : Fin cfg0.N) : (win0_3.xblock (grid0.coords t)).Idx → Ideal .bf16 :=
  (win0_3.blk t).view.read (Elt Ideal) (target m c)

/-- A block whose columns are the layer's, of the rows of the blocks of codes and tables as fetched, is the target on its part
    inside the array. -/
theorem cut_eq_part (c : Dev nD) (t : Fin cfg0.N) (d1 : S1024x1024.Idx → BitVec 8) (d2 : S1024x16.Idx → BitVec 16)
    (X : S24x4x1024.Idx → Ideal .bf16)
    (hX : ∀ (a : Fin 24) (b : Fin 4) (n : Fin 1024), X (ix3 a b n) = linear (fun s => V m c main_arg0 (ix3 a b s))
      (fun k => win0_1.fill (grid0.coords t) d1 (iblk m c 1 t) (ix2 n k)) (fun l => win0_2.fill (grid0.coords t) d2 (iblk m c 2 t) (ix2 n l))) :
    win0_3.cut (grid0.coords t) X = part m c t := by
  obtain ⟨i0, i1, i2, x0, x1, x2⟩ := place3 t
  funext j
  have h0 : (j 0).val < 24 := lt_of_lt_of_eq (j 0).isLt x0
  have h1 : (j 1).val < 4 := lt_of_lt_of_eq (j 1).isLt x1
  have h2 : (j 2).val < min 1024 (11008 - 1024 * t.val) := lt_of_lt_of_eq (j 2).isLt x2
  have hn : 1024 * t.val + (j 2).val < 11008 := by omega
  have hl : win0_3.xinj (grid0.coords t) j = ix3 ⟨(j 0).val, h0⟩ ⟨(j 1).val, h1⟩ ⟨(j 2).val, by omega⟩ := by
    funext a; match a with | ⟨0, _⟩ => rfl | ⟨1, _⟩ => rfl | ⟨2, _⟩ => rfl
  have hr : (win0_3.rect t).emb j = ix3 ⟨(j 0).val, h0⟩ ⟨(j 1).val, h1⟩ ⟨1024 * t.val + (j 2).val, hn⟩ := by
    funext a
    apply Fin.ext
    match a with
    | ⟨0, _⟩ => show win0_3.index t 0 * 24 + 1 * (j 0).val = (j 0).val; rw [i0]; omega
    | ⟨1, _⟩ => show win0_3.index t 1 * 4 + 1 * (j 1).val = (j 1).val; rw [i1]; omega
    | ⟨2, _⟩ => show win0_3.index t 2 * 1024 + 1 * (j 2).val = 1024 * t.val + (j 2).val; rw [i2]; omega
  show X (win0_3.xinj (grid0.coords t) j) = target m c ((win0_3.rect t).emb j)
  rw [hl, hr, hX]
  unfold target
  rw [layer_apply]
  congr 1
  · funext k; exact codes_row m c t d1 _ k hn
  · funext l; exact tables_row m c t d2 _ l hn

/-- Every element of the result is in some point's block. -/
theorem cover (i : S24x4x11008.Idx) : ∃ t : Fin cfg0.N, (cfg0.win 3).flush t = true ∧ i ∈ ((cfg0.win 3).blk t).view.set := by
  have h0 : (i 0).val < 24 := (i 0).isLt
  have h1 : (i 1).val < 4 := (i 1).isLt
  have h2 : (i 2).val < 11008 := (i 2).isLt
  have hN : cfg0.N = 11 := N_0
  obtain ⟨t, ht⟩ : ∃ t : Fin cfg0.N, t.val = (i 2).val / 1024 := ⟨⟨(i 2).val / 1024, by omega⟩, rfl⟩
  refine ⟨t, flush0_3 t, ?_⟩
  obtain ⟨i0, i1, i2, x0, x1, x2⟩ := place3 t
  show i ∈ ((View.whole main_v0).slice (win0_3.rect t)).set
  rw [View.set_slice_whole, Rect.mem_set_unit]
  intro a
  match a with
  | ⟨0, _⟩ =>
    show win0_3.index t 0 * 24 ≤ (i 0).val ∧ (i 0).val < win0_3.index t 0 * 24 + win0_3.xsize (grid0.coords t) 0
    rw [i0, x0]; omega
  | ⟨1, _⟩ =>
    show win0_3.index t 1 * 4 ≤ (i 1).val ∧ (i 1).val < win0_3.index t 1 * 4 + win0_3.xsize (grid0.coords t) 1
    rw [i1, x1]; omega
  | ⟨2, _⟩ =>
    show win0_3.index t 2 * 1024 ≤ (i 2).val ∧ (i 2).val < win0_3.index t 2 * 1024 + win0_3.xsize (grid0.coords t) 2
    rw [i2, x2]; omega

end Cert.KernelIdealProof

end
-- ==== Proof.KernelIdealFrame.lean ====
/-
  The idealized kernel's execution: from any memory whose counters are zero it terminates, its argument arrays end as launched,
  every counter ends at zero, and the result array ends holding the linear layer of the arguments.

  The scratch is filled at the first grid point only and read at every one, so the state carried from point to point says what it
  holds: anything before the first point, the permuted activations after it.
-/
module

public import proofs.«01_k».proof.Proof.Rows

@[expose] public section

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What a result block holds after the body, at the blocks `X1`, `X2`, `X3`. -/
def Holds (X1 : S24x4x2048.Idx → Ideal .bf16) (X2 : S1024x1024.Idx → BitVec 8) (X3 : S1024x16.Idx → BitVec 16)
    (X : S24x4x1024.Idx → Ideal .bf16) : Prop :=
  ∀ (a : Fin 24) (b : Fin 4) (n : Fin 1024), X (ix3 a b n) = linear (fun s => X1 (ix3 a b s)) (fun k => X2 (ix2 n k)) (fun l => X3 (ix2 n l))

/-- The scratch at the permuted activations. -/
def Filled (c : Dev nD) (M5 : Memref sig .tc .vmem S96x2048 .bf16) (X1 : S24x4x2048.Idx → Ideal .bf16) (f5 : Bf (F := Ideal) c M5) : Prop :=
  M5.view.read (Elt Ideal) f5 = permX X1

/-- The scratch after the body is filled if the body fills it or it was filled before. -/
theorem filled_after (c : Dev nD) (i : grid0.Coords) (M1 : Memref sig .tc .vmem S24x4x2048 .bf16) (M5 : Memref sig .tc .vmem S96x2048 .bf16)
    (f1 : Bf (F := Ideal) c M1) (f5 : Bf (F := Ideal) c M5)
    (h : first i = 1#1 ∨ Filled c M5 (M1.view.read (Elt Ideal) f1) f5) :
    Filled c M5 (M1.view.read (Elt Ideal) f1) (scratchAfter c i M1 M5 f1 f5) := by
  unfold Filled scratchAfter
  by_cases hc : first i = 1#1
  · rw [dif_pos hc]; exact read_storesX c M1 M5 f1 f5
  · rw [dif_neg hc]; exact h.resolve_left hc

/-- The body on buffers held at read contents `X1`, `X2`, `X3`, the result's at anything, and the scratch filled unless the body
    fills it: it leaves the inputs, the block of the layer and the scratch filled. -/
theorem sound_body (c : Dev nD) (E : Set ℕ) (i : grid0.Coords)
    (M1 : Memref sig .tc .vmem S24x4x2048 .bf16) (h1 : M1.IsWhole) (M2 : Memref sig .tc .vmem S1024x1024 .i8) (h2 : M2.IsWhole)
    (M3 : Memref sig .tc .vmem S1024x16 .i16) (h3 : M3.IsWhole) (M4 : Memref sig .tc .vmem S24x4x1024 .bf16) (h4 : M4.IsWhole)
    (M5 : Memref sig .tc .vmem S96x2048 .bf16) (h5 : M5.IsWhole)
    (X1 : S24x4x2048.Idx → Elt Ideal .bf16) (X2 : S1024x1024.Idx → Elt Ideal .i8) (X3 : S1024x16.Idx → Elt Ideal .i16)
    (X4 : S24x4x1024.Idx → Elt Ideal .bf16) (f5 : Bf (F := Ideal) c M5) (hf : first i = 1#1 ∨ Filled c M5 X1 f5) (K : PUnit → sProp 𝕄) :
    iprop((owns (c : Thread nD τ) M1 fullShare X1 ∗ owns (c : Thread nD τ) M2 fullShare X2 ∗ owns (c : Thread nD τ) M3 fullShare X3
            ∗ owns (c : Thread nD τ) M4 fullShare X4 ∗ pt c M5 f5)
          ∗ (iprop(owns (c : Thread nD τ) M1 fullShare X1 ∗ owns (c : Thread nD τ) M2 fullShare X2 ∗ owns (c : Thread nD τ) M3 fullShare X3
            ∗ (∃ X, ⌜Holds X1 X2 X3 X⌝ ∗ owns (c : Thread nD τ) M4 fullShare X) ∗ (∃ f, ⌜Filled c M5 X1 f⌝ ∗ pt c M5 f)) -∗ K ⟨⟩))
      ⊢ wp frame (wpE (defs₀ (F := Ideal)) Variants.none c none) E (cc0_any4 i M1 h1 M2 h2 M3 h3 M4 h4 M5 h5) K := by
  unfold owns; rw [h1.set_eq_univ, h2.set_eq_univ, h3.set_eq_univ, h4.set_eq_univ]
  iintro ⟨⟨⟨%f1, %hf1, H1⟩, ⟨%f2, %hf2, H2⟩, ⟨%f3, %hf3, H3⟩, ⟨%f4, %hf4, H4⟩, H5⟩, Hk⟩
  iapply ((bodyRun (F := Ideal) c i M1 h1 M2 h2 M3 h3 M4 h4 M5 h5 f1 f2 f3 f5).2 f4 E K)
  isplitl [H1]; · iexact H1
  isplitl [H2]; · iexact H2
  isplitl [H3]; · iexact H3
  isplitl [H4]; · iexact H4
  isplitl [H5]; · iexact H5
  rw [scratch_eq, result_eq]
  have hS : Filled c M5 X1 (scratchAfter c i M1 M5 f1 f5) := by
    subst hf1; exact filled_after c i M1 M5 f1 f5 hf
  iintro ⟨H1, H2, H3, H4, H5⟩
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _
    isplitr
    swap
    · iexists _; isplitr
      swap; · iexact H4
      ipureintro; rfl
    ipureintro
    subst hf1 hf2 hf3
    rw [View.read_writes_junk_eq_canon]
    exact fun a b n => block_apply c M2 M3 M5 f2 f3 _ _ hS a b n
  iexists _; isplitr
  swap; · iexact H5
  ipureintro; exact hS

/-! ## The proof data -/

/-- What is carried from one grid point to the next: the scratch, filled after the first point, and the generator register. -/
def carried (c : Dev nD) (n : ℕ) : sProp 𝕄 :=
  iprop((∃ f : Bf (F := Ideal) c (Memref.whole cc0_scratch0), ⌜n = 0 ∨ Filled c (Memref.whole cc0_scratch0) (V m c main_arg0) f⌝
    ∗ pt c (Memref.whole cc0_scratch0) f) ∗ ∃ r, prngReg c r)

/-- The proof data: the arrays at what the region finds, each input's buffer left with its block in it, the result's with its part of
    the layer, the scratch carried. -/
def dats (_ : Fin 1) (c : Dev nD) : Dat τ (Elt Ideal) Unit ℕ (UR sig nD τ) ℕ cfg0 c where
  A w := V m c (Pipeline.arrRef spec0 w)
  after w t := match w with
    | ⟨0, _⟩ => V m c main_arg0
    | ⟨1, _⟩ => win0_1.fill (grid0.coords t) (fun _ => 0#8) (iblk m c 1 t)
    | ⟨2, _⟩ => win0_2.fill (grid0.coords t) (fun _ => 0#16) (iblk m c 2 t)
    | ⟨3, _⟩ => win0_3.fill (grid0.coords t) (fun _ => (0 : EReal)) (part m c t)
  Φ t := carried m c t.val
  q _ := fullShare
  owed _ := 0

theorem before_0 (c : Dev nD) (t : Fin cfg0.N) (d) : (dats m 0 c).before 0 t d = V m c main_arg0 :=
  (before0_0_of m (dats m 0 c) rfl (fun t => (iblk0 m c t).symm) t d).trans (iblk0 m c t)
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

theorem after_1 (c : Dev nD) (t : Fin cfg0.N) : win0_1.cut (grid0.coords t) ((dats m 0 c).after 1 t) = iblk m c 1 t := win0_1.cut_fill _ _ _
theorem after_2 (c : Dev nD) (t : Fin cfg0.N) : win0_2.cut (grid0.coords t) ((dats m 0 c).after 2 t) = iblk m c 2 t := win0_2.cut_fill _ _ _
theorem after_3 (c : Dev nD) (t : Fin cfg0.N) : win0_3.cut (grid0.coords t) ((dats m 0 c).after 3 t) = part m c t := win0_3.cut_fill _ _ _

set_option maxHeartbeats 1000000 in
theorem body_obligation (c : Dev nD) : BodyObligationLoose (dats m 0 c) (defs₀ (F := Ideal)) Variants.none () Set.univ := fun t => by
  rw [bigSep_W0, bigSep_W0]
  dsimp only
  rw [show (dats m 0 c).Φ t.succ = carried m c (t.val + 1) from rfl,
    show (dats m 0 c).Φ t.castSucc = carried m c t.val from rfl,
    show (dats m 0 c).owesAt () t.succ = (dats m 0 c).owesAt () t.castSucc from rfl]
  unfold carried
  iintro ⟨⟨⟨%f5, %hf5, H5⟩, Hg⟩, Ho, ⟨%d0, H0⟩, ⟨%d1, H1⟩, ⟨%d2, H2⟩, ⟨%d3, H3⟩⟩
  rw [before_0 m c t d0, before_1 m c t d1, before_2 m c t d2]
  have hf : first (grid0.coords t) = 1#1 ∨ Filled c (Memref.whole cc0_scratch0) (V m c main_arg0) f5 :=
    hf5.imp (fun h => (first_eq t).trans (if_pos h)) id
  iapply (sound_body c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (Memref.whole cc0_scratch0) (Memref.isWhole_whole _)
    (V m c main_arg0) (win0_1.fill (grid0.coords t) d1 (iblk m c 1 t)) (win0_2.fill (grid0.coords t) d2 (iblk m c 2 t))
    ((dats m 0 c).before 3 t d3) f5 hf _)
  isplitl [H0 H1 H2 H3 H5]
  · isplitl [H0]; · iexact H0
    isplitl [H1]; · iexact H1
    isplitl [H2]; · iexact H2
    isplitl [H3]; · iexact H3
    iexact H5
  iintro ⟨H0, H1, H2, ⟨%X, %hX, H3⟩, ⟨%f, %hfl, H5⟩⟩
  isplitl [H5 Hg]
  · isplitl [H5]
    · iexists f; isplitr
      · ipureintro; exact .inr hfl
      iexact H5
    iexact Hg
  isplitl [Ho]; · iexact Ho
  have hx := after_1 m c t
  have hy := after_2 m c t
  have hz := after_3 m c t
  have hw : win0_3.fill (grid0.coords t) X (part m c t) = X := by
    rw [← cut_eq_part m c t d1 d2 X hX]; exact win0_3.fill_cut _ X
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [hx]; try iexact H1
  isplitl [H2]
  · iexists d2
    change _ ⊢ owns (c : Thread nD τ) (st0_2 t) fullShare (win0_2.fill (grid0.coords t) d2 (win0_2.cut (grid0.coords t) ((dats m 0 c).after 2 t)))
    rw [hy]; try iexact H2
  iexists X
  change _ ⊢ owns (c : Thread nD τ) (st0_3 t) fullShare (win0_3.fill (grid0.coords t) X (win0_3.cut (grid0.coords t) ((dats m 0 c).after 3 t)))
  rw [hz, hw]; try iexact H3

/-- The result array at the end. -/
theorem final (c : Dev nD) : (dats m 0 c).arrAt 3 cfg0.N = target m c :=
  (dats m 0 c).arrAt_eq_of_cover 3 (target m c) (fun t _ => win0_3.cut_fill (grid0.coords t) (fun _ => (0 : EReal)) (part m c t)) cover

/-- Before the first point the scratch is at anything, -/
theorem carried_start (c : Dev nD) : (Pipeline.ΦA spec0 c : sProp 𝕄) ⊢ carried m c 0 := by
  unfold Pipeline.ΦA carried
  rw [scopedRest0_eq]
  iintro ⟨⟨%f, H⟩, Hg⟩
  isplitl [H]
  · iexists f; isplitr
    · ipureintro; exact .inl rfl
    iexact H
  iexact Hg

/-- and after the last one what it holds is forgotten. -/
theorem carried_end (c : Dev nD) (n : ℕ) : carried m c n ⊢ (Pipeline.ΦA spec0 c : sProp 𝕄) := by
  unfold Pipeline.ΦA carried
  rw [scopedRest0_eq]
  iintro ⟨⟨%f, %hf, H⟩, Hg⟩
  isplitl [H]
  · iexists f; iexact H
  iexact Hg

set_option backward.isDefEq.respectTransparency.types false in
/-- The execution, from any memory: what the arrays and the counters end at. -/
theorem run : θ_run defs (onTc (τ := τ) (main (F := Ideal))) ⟨m, fun _ => 0, ρ⟩ (fun r => (∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_track cfgs (dats m) (0 : Fin 1) launch0 defs₀ Variants.none m ρ main
    (hbody := body_obligation m)
    (hshare := fun c => (dats m 0 c).share_full fun _ => rfl) (howed := fun _ _ => rfl)
    (V := V m) (hmain := hmain m Variants.none) (hA := fun _ _ => rfl)
    (hin := fun c => carried_start m c) (hout := fun c => carried_end m c _)
    (Q' := _) (hQ' := fun r h => ⟨fun c => ⟨((h.1 c).1 3).trans (final m c), ((h.1 c).1 0).trans ((dats m 0 c).arrAt_in 0 rfl _),
      ((h.1 c).1 1).trans ((dats m 0 c).arrAt_in 1 rfl _), ((h.1 c).1 2).trans ((dats m 0 c).arrAt_in 2 rfl _)⟩, h.2⟩)

end Cert.KernelIdealProof

end
-- ==== Proof.RefValue.lean ====
/-
  The reference's result at an index: each element is the linear layer's sum, its two halves added.

  A code picks its level by its four bits, lowest first: sixteen levels, eight pairs, four, two, one.
-/
module

public import proofs.«01_k».proof.Proof.Rows
public import proofs.«01_k».proof.Proof.Gen.ReferenceIdeal.Run

@[expose] public section

noncomputable section

namespace Cert.ReferenceIdealProof

open Cert.ReferenceIdeal Cert.ReferenceIdeal.Gen Cert.ReferenceIdeal.Value

open Idealize.ShloMosaic
open Idealize.ShloMosaic.TcCoe
open Cert.KernelIdealProof (weight linear codLo codHi layer)

/-- Bit `j` of each code. -/
def bitOf (j : BitVec 32) (C : IVec S11008x1024 32) : IVec S11008x1024 1 :=
  cmpi .eq (andi (Host.shrsi C (broadcastInDim S11008x1024 ![] bcast_S_S11008x1024 (constantI S_ 32 j)))
    (broadcastInDim S11008x1024 ![] bcast_S_S11008x1024 (constantI S_ 32 1#32))) (broadcastInDim S11008x1024 ![] bcast_S_S11008x1024 (constantI S_ 32 1#32))

theorem slices (k : ℕ) (h : k < 16) : S11008x16.Slices ![0, k] S11008x1 :=
  ⟨rfl, fun a => by
    match a with
    | ⟨0, _⟩ => exact le_refl _
    | ⟨1, _⟩ => exact h⟩

/-- Level `k` of each row's table, along the row. -/
def levelOf (T : FVec Ideal S11008x16 .bf16) (k : ℕ) (h : k < 16) : FVec Ideal S11008x1024 .bf16 :=
  broadcastInDim S11008x1024 ![0, 1] bcast_S11008x1_S11008x1024_0_1 (extractStridedSlice S11008x1 ![0, k] T (slices k h))

section Tree

variable (C : IVec S11008x1024 32) (T : FVec Ideal S11008x16 .bf16)

/-- The pick among two levels, four, eight and sixteen. -/
def two (o : ℕ) (h : o + 2 ≤ 16) : FVec Ideal S11008x1024 .bf16 :=
  select (bitOf 0#32 C) (levelOf T (o + 1) (by omega)) (levelOf T o (by omega))
def four (o : ℕ) (h : o + 4 ≤ 16) : FVec Ideal S11008x1024 .bf16 :=
  select (bitOf 1#32 C) (two C T (o + 2) (by omega)) (two C T o (by omega))
def eight (o : ℕ) (h : o + 8 ≤ 16) : FVec Ideal S11008x1024 .bf16 :=
  select (bitOf 2#32 C) (four C T (o + 4) (by omega)) (four C T o (by omega))
def sixteen : FVec Ideal S11008x1024 .bf16 :=
  select (bitOf 3#32 C) (eight C T 8 (by omega)) (eight C T 0 (by omega))

theorem levelOf_apply (k : ℕ) (h : k < 16) (n : Fin 11008) (i : Fin 1024) : levelOf T k h (ix2 n i) = T (ix2 n ⟨k, h⟩) := by
  unfold levelOf
  pointwise

theorem bit_of_nibble : ∀ (j : Fin 4) (c : Fin 16),
    IntOp.cmpi .eq (IntOp.andi (IntOp.shrsi .host (BitVec.ofNat 32 c.val) (BitVec.ofNat 32 j.val)) 1#32) 1#32
      = if c.val / 2 ^ j.val % 2 = 1 then 1#1 else 0#1 := by decide +kernel

variable (n : Fin 11008) (i : Fin 1024) (c : Fin 16) (hc : C (ix2 n i) = BitVec.ofNat 32 c.val)
include hc

theorem bitOf_apply (j : Fin 4) : bitOf (BitVec.ofNat 32 j.val) C (ix2 n i) = if c.val / 2 ^ j.val % 2 = 1 then 1#1 else 0#1 := by
  rw [← bit_of_nibble j c, ← hc]
  unfold bitOf
  pointwise

/-- A pick by bit `j` of the code. -/
theorem pick_apply (j : Fin 4) (x y : FVec Ideal S11008x1024 .bf16) :
    select (bitOf (BitVec.ofNat 32 j.val) C) x y (ix2 n i) = if c.val / 2 ^ j.val % 2 = 1 then x (ix2 n i) else y (ix2 n i) := by
  show (if bitOf (BitVec.ofNat 32 j.val) C (ix2 n i) = 1#1 then x (ix2 n i) else y (ix2 n i)) = _
  rw [bitOf_apply C n i c hc j]
  by_cases h : c.val / 2 ^ j.val % 2 = 1
  · rw [if_pos h, if_pos h, if_pos rfl]
  · rw [if_neg h, if_neg h, if_neg (by decide)]

theorem two_apply (o : ℕ) (h : o + 2 ≤ 16) : two C T o h (ix2 n i) = T (ix2 n ⟨o + c.val % 2, by omega⟩) := by
  unfold two
  refine (pick_apply C n i c hc 0 _ _).trans ?_
  rw [levelOf_apply, levelOf_apply]
  have hj : c.val / 2 ^ (0 : Fin 4).val = c.val := Nat.div_one _
  rw [hj]
  by_cases h' : c.val % 2 = 1
  · rw [if_pos h']; congr 2; apply Fin.ext; show o + 1 = o + c.val % 2; omega
  · rw [if_neg h']; congr 2; apply Fin.ext; show o = o + c.val % 2; omega

theorem four_apply (o : ℕ) (h : o + 4 ≤ 16) : four C T o h (ix2 n i) = T (ix2 n ⟨o + c.val % 4, by omega⟩) := by
  unfold four
  refine (pick_apply C n i c hc 1 _ _).trans ?_
  rw [two_apply C T n i c hc, two_apply C T n i c hc]
  have hj : c.val / 2 ^ (1 : Fin 4).val = c.val / 2 := rfl
  rw [hj]
  by_cases h' : c.val / 2 % 2 = 1
  · rw [if_pos h']; congr 2; apply Fin.ext; show o + 2 + c.val % 2 = o + c.val % 4; omega
  · rw [if_neg h']; congr 2; apply Fin.ext; show o + c.val % 2 = o + c.val % 4; omega

theorem eight_apply (o : ℕ) (h : o + 8 ≤ 16) : eight C T o h (ix2 n i) = T (ix2 n ⟨o + c.val % 8, by omega⟩) := by
  unfold eight
  refine (pick_apply C n i c hc 2 _ _).trans ?_
  rw [four_apply C T n i c hc, four_apply C T n i c hc]
  have hj : c.val / 2 ^ (2 : Fin 4).val = c.val / 4 := rfl
  rw [hj]
  by_cases h' : c.val / 4 % 2 = 1
  · rw [if_pos h']; congr 2; apply Fin.ext; show o + 4 + c.val % 4 = o + c.val % 8; omega
  · rw [if_neg h']; congr 2; apply Fin.ext; show o + c.val % 4 = o + c.val % 8; omega

/-- The sixteen-way pick reads the table at the code. -/
theorem sixteen_apply : sixteen C T (ix2 n i) = T (ix2 n c) := by
  unfold sixteen
  refine (pick_apply C n i c hc 3 _ _).trans ?_
  rw [eight_apply C T n i c hc, eight_apply C T n i c hc]
  have hj : c.val / 2 ^ (3 : Fin 4).val = c.val / 8 := rfl
  rw [hj]
  by_cases h' : c.val / 8 % 2 = 1
  · rw [if_pos h']; congr 2; apply Fin.ext; show 8 + c.val % 8 = c.val; omega
  · rw [if_neg h']; congr 2; apply Fin.ext; show 0 + c.val % 8 = c.val; omega

end Tree

section Value

variable (V0 : Valuation τ sig (Elt Ideal))

/-- The reference's three arguments. -/
abbrev argX : FVec Ideal S24x4x2048 .bf16 := V0 (Proc.devRef .tc main_arg0)
abbrev argW : IVec S11008x1024 8 := V0 (Proc.devRef .tc main_arg1)
abbrev argT : IVec S11008x16 16 := V0 (Proc.devRef .tc main_arg2)

/-- Its codes and its table. -/
abbrev lowCodes : IVec S11008x1024 32 := res_main_v3 V0
abbrev highCodes : IVec S11008x1024 32 := res_main_v6 V0
abbrev table : FVec Ideal S11008x16 .bf16 := res_main_v0 V0

/-- The product of one half of the activations with one half of the weights. -/
abbrev dotHalf (x : FVec Ideal S24x4x1024 .bf16) (W : FVec Ideal S11008x1024 .bf16) : FVec Ideal S24x4x11008 .f32 :=
  Host.dotGeneral dot_S24x4x1024_S11008x1024_S24x4x11008_2_1_01_0_n_n none x W

theorem dotHalf_apply (x : FVec Ideal S24x4x1024 .bf16) (W : FVec Ideal S11008x1024 .bf16) (a : Fin 24) (b : Fin 4) (n : Fin 11008) :
    dotHalf x W (ix3 a b n) = (∑ k : Fin 1024, x (ix3 a b k) * W (ix2 n k) : EReal) := by
  unfold dotHalf
  pointwise

/-- The result, by halves. -/
theorem res_eq : (res_main_v121 V0 : FVec Ideal S24x4x11008 .f32) = addf
    (dotHalf (extractStridedSlice S24x4x1024 ![0, 0, 0] (argX V0) slices_S24x4x2048_S24x4x1024_0_0_0) (sixteen (lowCodes V0) (table V0)))
    (dotHalf (extractStridedSlice S24x4x1024 ![0, 0, 1024] (argX V0) slices_S24x4x2048_S24x4x1024_0_0_1024) (sixteen (highCodes V0) (table V0))) := rfl

theorem low_nibble : ∀ w : BitVec 8, IntOp.andi (BitVec.setWidth 32 w) 15#32 = BitVec.ofNat 32 (codLo w).val := by decide +kernel
theorem high_nibble : ∀ w : BitVec 8, IntOp.shrsi .host (BitVec.setWidth 32 w) 4#32 = BitVec.ofNat 32 (codHi w).val := by decide +kernel

variable (n : Fin 11008)

theorem lowCodes_apply (k : Fin 1024) : lowCodes V0 (ix2 n k) = BitVec.ofNat 32 (codLo (argW V0 (ix2 n k))).val := by
  rw [← low_nibble]
  unfold lowCodes res_main_v3
  pointwise

theorem highCodes_apply (k : Fin 1024) : highCodes V0 (ix2 n k) = BitVec.ofNat 32 (codHi (argW V0 (ix2 n k))).val := by
  rw [← high_nibble]
  unfold highCodes res_main_v6
  pointwise

theorem table_apply (l : Fin 16) : table V0 (ix2 n l) = Ideal.ofBits .bf16 (argT V0 (ix2 n l)) := by
  unfold table res_main_v0
  pointwise

/-- A sum over 2048 as two sums over 1024. -/
theorem sum_two (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

theorem slice_low (x : FVec Ideal S24x4x2048 .bf16) (a : Fin 24) (b : Fin 4) (k : Fin 1024) :
    extractStridedSlice S24x4x1024 ![0, 0, 0] x slices_S24x4x2048_S24x4x1024_0_0_0 (ix3 a b k) = x (ix3 a b ⟨k.val, by omega⟩) := by
  pointwise
theorem slice_high (x : FVec Ideal S24x4x2048 .bf16) (a : Fin 24) (b : Fin 4) (k : Fin 1024) :
    extractStridedSlice S24x4x1024 ![0, 0, 1024] x slices_S24x4x2048_S24x4x1024_0_0_1024 (ix3 a b k) = x (ix3 a b ⟨1024 + k.val, by omega⟩) := by
  pointwise

/-- The reference's result is the linear layer of its arguments. -/
theorem result_eq : truncf .bf16 (res_main_v121 V0 : FVec Ideal S24x4x11008 .f32) bitsLt_bf16_f32 = layer (argX V0) (argW V0) (argT V0) := by
  funext y
  obtain ⟨a, b, n, rfl⟩ : ∃ (a : Fin 24) (b : Fin 4) (n : Fin 11008), y = ix3 a b n :=
    ⟨y 0, y 1, y 2, by funext a; match a with | ⟨0, _⟩ => rfl | ⟨1, _⟩ => rfl | ⟨2, _⟩ => rfl⟩
  rw [Cert.KernelIdealProof.layer_apply, res_eq]
  unfold linear
  rw [sum_two]
  refine Eq.trans (b := (dotHalf _ _ (ix3 a b n) + dotHalf _ _ (ix3 a b n) : EReal)) rfl ?_
  rw [dotHalf_apply, dotHalf_apply]
  congr 1
  · refine Finset.sum_congr rfl fun k _ => ?_
    rw [slice_low, sixteen_apply _ _ n k _ (lowCodes_apply V0 n k), table_apply]
    unfold weight
    rw [dif_pos k.isLt]
  · refine Finset.sum_congr rfl fun k _ => ?_
    rw [slice_high, sixteen_apply _ _ n k _ (highCodes_apply V0 n k), table_apply]
    unfold weight
    rw [dif_neg (by dsimp only; omega)]
    congr 4
    refine congrArg (fun k' => codHi (argW V0 (ix2 n k'))) (Fin.ext ?_)
    dsimp only; omega

end Value

end Cert.ReferenceIdealProof

end
-- ==== Proof.lean ====
/-
  The certificate: the kernel, the idealized kernel and the reference each run and leave their arguments as they were and their
  counters at zero; the idealization rewrote nothing; and the idealized kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel runs, its arguments end unchanged and its counters at zero. -/
theorem frame_kernel : Cert.quiescent_Kernel := fun m g _ => Cert.KernelProof.quiescent m g

/-- So does the idealized kernel, -/
theorem frame_kernelIdeal : Cert.quiescent_KernelIdeal := fun m g _ =>
  (θ_run Cert.KernelIdeal.defs _ _).mono (fun _ h => ⟨fun c => (h.1 c).2, h.2⟩) (Cert.KernelIdealProof.run m g)

/-- and the reference, which has no counters. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel and the reference end with equal results: both are the linear layer of the arguments. -/
theorem algebraic : Cert.algebraic_KernelIdeal_ReferenceIdeal := by
  intro m g m' g' _ hm
  refine ⟨fun c => Cert.KernelIdealProof.target m c,
    (θ_run Cert.KernelIdeal.defs _ _).mono (fun _ h => h.1) (Cert.KernelIdealProof.run m g),
    (θ_run Cert.ReferenceIdeal.defs _ _).mono (fun _ h c => ⟨(h c).1.trans ?_, (h c).2⟩) (Cert.ReferenceIdeal.Value.run (F := Ideal) m' g')⟩
  refine (Cert.ReferenceIdealProof.result_eq (StableHlo.launchContents m' c)).trans ?_
  obtain ⟨h0, h1, h2⟩ := hm c
  show Cert.KernelIdealProof.layer (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = Cert.KernelIdealProof.target m c
  rw [h0, h1, h2]
  rfl

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
